-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x1024 : Shape := ⟨2, ![1024, 1024]⟩
abbrev S128x1024 : Shape := ⟨2, ![128, 1024]⟩
abbrev S7x128x128 : Shape := ⟨3, ![7, 128, 128]⟩
abbrev S7 : Shape := ⟨1, ![7]⟩
abbrev S_ : Shape := ⟨0, ![]⟩
abbrev S2 : Shape := ⟨1, ![2]⟩
abbrev S1 : Shape := ⟨1, ![1]⟩
abbrev S1x128x128 : Shape := ⟨3, ![1, 128, 128]⟩
abbrev S128x128 : Shape := ⟨2, ![128, 128]⟩
abbrev S128x512 : Shape := ⟨2, ![128, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x128, .bf16⟩
  | .hbm, ⟨1, _⟩ => ⟨S1024x1024, .bf16⟩
  | .hbm, ⟨2, _⟩ => ⟨S128x1024, .f32⟩
  | .local _ .vmem, ⟨0, _⟩ => ⟨S1024x128, .bf16⟩
  | .local _ .vmem, ⟨1, _⟩ => ⟨S7x128x128, .bf16⟩
  | .local _ .vmem, ⟨2, _⟩ => ⟨S1024x1024, .bf16⟩
  | .local _ .vmem, ⟨3, _⟩ => ⟨S128x1024, .f32⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c2_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c2_i32_29
  let c8_i32_30 : BitVec 32 := 8#32
  let v33 : BitVec 32 := Scalar.remsi v32 c8_i32_30
  let c128_i32 : BitVec 32 := 128#32
  let v34 : BitVec 32 := Scalar.muli v33 c128_i32
  let c0_i32_38 : BitVec 32 := 0#32
  ![v34.toNat, 0]
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v32 : BitVec 32 := Scalar.addi v2 c2_i32_29
  let c8_i32_30 : BitVec 32 := 8#32
  let v33 : BitVec 32 := Scalar.remsi v32 c8_i32_30
  let c1_i32_34 : BitVec 32 := 1#32
  let v35 : BitVec 32 := Scalar.muli v33 c1_i32_34
  let v36 : BitVec 32 := Scalar.addi c0_i32_35 v35
  v36.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_39 : BitVec 32 := 6#32
  let v44 : BitVec 32 := Scalar.addi v2 c6_i32_39
  let c8_i32_40 : BitVec 32 := 8#32
  let v45 : BitVec 32 := Scalar.remsi v44 c8_i32_40
  let c1_i32_45 : BitVec 32 := 1#32
  let v47 : BitVec 32 := Scalar.muli v45 c1_i32_45
  let v48 : BitVec 32 := Scalar.addi c0_i32_46 v47
  v48.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v56 : BitVec 32 := Scalar.addi v2 c3_i32_50
  let c8_i32_51 : BitVec 32 := 8#32
  let v57 : BitVec 32 := Scalar.remsi v56 c8_i32_51
  let c1_i32_56 : BitVec 32 := 1#32
  let v59 : BitVec 32 := Scalar.muli v57 c1_i32_56
  let v60 : BitVec 32 := Scalar.addi c0_i32_57 v59
  v60.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_61 : BitVec 32 := 5#32
  let v68 : BitVec 32 := Scalar.addi v2 c5_i32_61
  let c8_i32_62 : BitVec 32 := 8#32
  let v69 : BitVec 32 := Scalar.remsi v68 c8_i32_62
  let c1_i32_67 : BitVec 32 := 1#32
  let v71 : BitVec 32 := Scalar.muli v69 c1_i32_67
  let v72 : BitVec 32 := Scalar.addi c0_i32_68 v71
  v72.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v80 : BitVec 32 := Scalar.addi v2 c1_i32_72
  let c8_i32_73 : BitVec 32 := 8#32
  let v81 : BitVec 32 := Scalar.remsi v80 c8_i32_73
  let c1_i32_78 : BitVec 32 := 1#32
  let v83 : BitVec 32 := Scalar.muli v81 c1_i32_78
  let v84 : BitVec 32 := Scalar.addi c0_i32_79 v83
  v84.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_83 : BitVec 32 := 7#32
  let v92 : BitVec 32 := Scalar.addi v2 c7_i32_83
  let c8_i32_84 : BitVec 32 := 8#32
  let v93 : BitVec 32 := Scalar.remsi v92 c8_i32_84
  let c1_i32_89 : BitVec 32 := 1#32
  let v95 : BitVec 32 := Scalar.muli v93 c1_i32_89
  let v96 : BitVec 32 := Scalar.addi c0_i32_90 v95
  v96.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_94 : BitVec 32 := 4#32
  let v104 : BitVec 32 := Scalar.addi v2 c4_i32_94
  let c8_i32_95 : BitVec 32 := 8#32
  let v105 : BitVec 32 := Scalar.remsi v104 c8_i32_95
  let c1_i32_100 : BitVec 32 := 1#32
  let v107 : BitVec 32 := Scalar.muli v105 c1_i32_100
  let v108 : BitVec 32 := Scalar.addi c0_i32_101 v107
  v108.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_105 : BitVec 32 := 128#32
  let v116 : BitVec 32 := Scalar.muli v2 c128_i32_105
  let v117 : Index := Scalar.indexCast v116
  let c0 : Index := 0#32
  ![v117.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_106 : BitVec 32 := 128#32
  let v120 : BitVec 32 := Scalar.muli v2 c128_i32_106
  let v121 : Index := Scalar.indexCast v120
  let c0_107 : Index := 0#32
  ![v121.toNat, 0]
def k0_off4 (d0 : Dev nD) (c4_i32_117 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_116 : BitVec 32 := 8#32
  let v131 : BitVec 32 := Scalar.addi v2 c8_i32_116
  let v132 : BitVec 32 := Scalar.subi v131 c4_i32_117
  let c8_i32_118 : BitVec 32 := 8#32
  let v133 : BitVec 32 := Scalar.remsi v132 c8_i32_118
  let c128_i32_121 : BitVec 32 := 128#32
  let v136 : BitVec 32 := Scalar.muli v133 c128_i32_121
  let v137 : Index := Scalar.indexCast v136
  let c0_122 : Index := 0#32
  ![v137.toNat, 0]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Geometry.lean ====
/-
# Geometry: the devices, the buffers and the pieces of them the exchange moves

Eight devices in a ring. Slot `j` of a device's communication buffer (`j : Fin 7`) belongs to the device
`j + 1` places behind it: that device sends there its block of rows of `x`.
-/
module

public import proofs.«01_k».proof.Proof.Gen.KernelIdeal.Launch
public import proofs.«01_k».proof.Proof.Gen.KernelIdeal.Skeleton
public import Idealize.ShloMosaic.Lib.Pipeline.Launch
public import Idealize.ShloMosaic.Lib.Tactic
public import Idealize.ShloMosaic.Lib.Ring
public import Idealize.ShloMosaic.Lib.ValueLayout

@[expose] public section

noncomputable section

namespace Cert.Exchange

open Cert.KernelIdeal Cert.KernelIdeal.Gen
open Idealize.ShloMosaic Idealize.ShloMosaic.TcCoe Idealize.ShloMosaic.ValueIdx

variable {F : FTy → Type} [FloatOps F]

/-! ## The ring of devices -/

/-- The device `j + 1` places ahead of `c`. -/
def ahead (c : Dev nD) (j : Fin 7) : Dev nD := ⟨(c.val + j.val + 1) % 8, Nat.mod_lt _ (by decide)⟩
/-- The device `j + 1` places behind `c`. -/
def behind (c : Dev nD) (j : Fin 7) : Dev nD := ⟨(c.val + 7 - j.val) % 8, Nat.mod_lt _ (by decide)⟩

theorem behind_ahead (c : Dev nD) (j : Fin 7) : behind (ahead c j) j = c := by revert c j; decide
theorem ahead_behind (c : Dev nD) (j : Fin 7) : ahead (behind c j) j = c := by revert c j; decide
/-- Going `j + 1` places back is going `7 - j` places on. -/
theorem behind_rev (c : Dev nD) (j : Fin 7) : behind c j.rev = ahead c j := by revert c j; decide
theorem ahead_ne (c : Dev nD) (j : Fin 7) : ahead c j ≠ c := by revert c j; decide
theorem ahead_injective (c : Dev nD) : Function.Injective (ahead c) := by revert c; decide
/-- Every device but `c` is ahead of `c` by some distance. -/
theorem image_ahead (c : Dev nD) : insert c (Finset.univ.image (ahead c)) = Finset.univ := by revert c; decide

/-- Moving every device `j + 1` places on is a permutation of the ring. -/
def shift (j : Fin 7) : Dev nD ≃ Dev nD :=
  ⟨fun c => ahead c j, fun c => behind c j, fun c => behind_ahead c j, fun c => ahead_behind c j⟩

/-! ## The buffers and their pieces -/

/-- The staged block of `x`. -/
abbrev xM : Memref sig .tc .vmem S1024x128 .bf16 := Memref.whole cc0_stg0_0
/-- The weights as the launch hands them over. -/
abbrev wH : Memref sig .tc .hbm S1024x1024 .bf16 := Memref.whole main_arg1
/-- The result array. -/
abbrev oH : Memref sig .tc .hbm S128x1024 .f32 := Memref.whole main_v1
/-- The communication buffer: seven slots. -/
abbrev rM : Memref sig .tc .vmem S7x128x128 .bf16 := Memref.whole cc0_scratch0
/-- The local copy of the weights. -/
abbrev wM : Memref sig .tc .vmem S1024x1024 .bf16 := Memref.whole cc0_scratch1
/-- The local copy of the result. -/
abbrev oM : Memref sig .tc .vmem S128x1024 .f32 := Memref.whole cc0_scratch2

theorem slot_inb (j : Fin 7) : ∀ a, (![j.val, 0, 0] : Fin 3 → ℕ) a + S1x128x128.size a ≤ S7x128x128.size a := by
  revert j; decide
theorem half_inb (h : Fin 2) : ∀ a, (![0, 512 * h.val] : Fin 2 → ℕ) a + S128x512.size a ≤ S128x1024.size a := by
  revert h; decide
theorem rows_inb (b : Dev nD) : ∀ a, (![128 * b.val, 0] : Fin 2 → ℕ) a + S128x128.size a ≤ S1024x128.size a := by
  revert b; decide

/-- Slot `j`, as a rectangle of the communication buffer. -/
abbrev slotR (j : Fin 7) : Rect S7x128x128 := Rect.unit ![j.val, 0, 0] S1x128x128.size (slot_inb j)
/-- The rows of block `b`, as a rectangle of the staged `x`. -/
abbrev rowsR (b : Dev nD) : Rect S1024x128 := Rect.unit ![128 * b.val, 0] S128x128.size (rows_inb b)
/-- The rows device `c` sends to `ahead c j`, as the kernel writes the rectangle. -/
abbrev blkR (c : Dev nD) (j : Fin 7) : Rect S1024x128 :=
  Rect.unit (k0_off1 c (BitVec.ofNat 32 (1 + j.val))) S128x128.size (k0_off1_inb c j)
/-- The left (`0`) or right (`1`) half of the columns of the result. -/
abbrev halfR (h : Fin 2) : Rect S128x1024 := Rect.unit ![0, 512 * h.val] S128x512.size (half_inb h)

abbrev slotM (j : Fin 7) : Memref sig .tc .vmem S128x128 .bf16 :=
  (rM.slice (slotR j) (fun _ => rfl)).squeeze S128x128 squeezes_S1x128x128_S128x128
abbrev blkM (c : Dev nD) (j : Fin 7) : Memref sig .tc .vmem S128x128 .bf16 := xM.slice (blkR c j) (fun _ => rfl)
abbrev halfV (h : Fin 2) : Memref sig .tc .vmem S128x512 .f32 := oM.slice (halfR h) (fun _ => rfl)
abbrev halfH (h : Fin 2) : Memref sig .tc .hbm S128x512 .f32 := oH.slice (halfR h) (fun _ => rfl)

/-! ### Their elements -/

theorem mem_slot {j : Fin 7} {i : S7x128x128.Idx} : i ∈ (slotR j).set ↔ (i 0).val = j.val := by
  rw [Rect.mem_set_unit]
  constructor
  · intro h
    have h0 := h 0
    simp at h0
    omega
  · intro h a
    have h1 := (i 1).isLt
    have h2 := (i 2).isLt
    fin_cases a <;> simp at h1 h2 ⊢ <;> omega

theorem mem_rows {b : Dev nD} {i : S1024x128.Idx} : i ∈ (rowsR b).set ↔ (i 0).val / 128 = b.val := by
  rw [Rect.mem_set_unit]
  constructor
  · intro h
    have h0 := h 0
    simp at h0
    omega
  · intro h a
    have h1 := (i 1).isLt
    fin_cases a <;> simp at h1 ⊢ <;> omega

theorem mem_half {h : Fin 2} {i : S128x1024.Idx} : i ∈ (halfR h).set ↔ (i 1).val / 512 = h.val := by
  rw [Rect.mem_set_unit]
  constructor
  · intro hh
    have h0 := hh 1
    simp at h0
    omega
  · intro hh a
    have h1 := (i 0).isLt
    fin_cases a <;> simp at h1 ⊢ <;> omega

/-- The kernel's send rectangle is the rows of the block of the device sent to. -/
theorem blk_set (c : Dev nD) (j : Fin 7) : (blkR c j).set = (rowsR (ahead c j)).set := by
  ext i
  rw [Rect.mem_set_unit, Rect.mem_set_unit, k0_off1_eq]
  rfl

theorem slotM_set (j : Fin 7) : (slotM j).view.set = (slotR j).set :=
  (View.set_reshape _ _).trans (View.set_slice_whole _ _)
theorem blkM_set (c : Dev nD) (j : Fin 7) : (blkM c j).view.set = (rowsR (ahead c j)).set :=
  (View.set_slice_whole _ _).trans (blk_set c j)
theorem halfV_set (h : Fin 2) : (halfV h).view.set = (halfR h).set := View.set_slice_whole _ _
theorem halfH_set (h : Fin 2) : (halfH h).view.set = (halfR h).set := View.set_slice_whole _ _

theorem slot_disjoint (j j' : Fin 7) (h : j ≠ j') : Disjoint (slotR j).set (slotR j').set :=
  Finset.disjoint_left.mpr fun i hi hi' => h (Fin.ext ((mem_slot.mp hi).symm.trans (mem_slot.mp hi')))
theorem rows_disjoint (b b' : Dev nD) (h : b ≠ b') : Disjoint (rowsR b).set (rowsR b').set :=
  Finset.disjoint_left.mpr fun i hi hi' => h (Fin.ext ((mem_rows.mp hi).symm.trans (mem_rows.mp hi')))
theorem half_disjoint (b b' : Fin 2) (h : b ≠ b') : Disjoint (halfR b).set (halfR b').set :=
  Finset.disjoint_left.mpr fun i hi hi' => h (Fin.ext ((mem_half.mp hi).symm.trans (mem_half.mp hi')))

theorem slot_cover : Finset.univ.biUnion (fun j => (slotR j).set) = Finset.univ :=
  Finset.eq_univ_iff_forall.mpr fun i => Finset.mem_biUnion.mpr ⟨i 0, Finset.mem_univ _, mem_slot.mpr rfl⟩
theorem rows_cover : Finset.univ.biUnion (fun b => (rowsR b).set) = Finset.univ :=
  Finset.eq_univ_iff_forall.mpr fun i => Finset.mem_biUnion.mpr
    ⟨⟨(i 0).val / 128, by have : (i 0).val < 1024 := (i 0).isLt; show (i 0).val / 128 < 8; omega⟩, Finset.mem_univ _, mem_rows.mpr rfl⟩
theorem half_cover : Finset.univ.biUnion (fun h => (halfR h).set) = Finset.univ :=
  Finset.eq_univ_iff_forall.mpr fun i => Finset.mem_biUnion.mpr
    ⟨⟨(i 1).val / 512, by have : (i 1).val < 1024 := (i 1).isLt; omega⟩, Finset.mem_univ _, mem_half.mpr rfl⟩

/-- Where entry `(x, y)` of slot `j` sits in the communication buffer. -/
theorem slotM_emb (j : Fin 7) (x y : Fin 128) : (slotM j).view.emb (ix2 x y : S128x128.Idx) = (ix3 j x y : S7x128x128.Idx) := by
  show (slotR j).emb (Shape.reshapeEquiv (s := S1x128x128) (s' := S128x128) _ (ix2 x y)) = _
  rw [reshapeEquiv_ix2_1ab]
  funext a
  refine Fin.ext ?_
  rw [Rect.emb_apply]
  fin_cases a <;> simp

/-- Where row `x`, column `y` of the rows sent to `ahead c j` sits in the staged `x`. -/
theorem blkM_emb (c : Dev nD) (j : Fin 7) (x y : Fin 128) :
    (blkM c j).view.emb (ix2 x y : S128x128.Idx)
      = (ix2 ⟨128 * (ahead c j).val + x.val, by have h : (ahead c j).val < 8 := (ahead c j).isLt; omega⟩ y : S1024x128.Idx) := by
  show (blkR c j).emb (ix2 x y) = _
  funext a
  refine Fin.ext ?_
  rw [Rect.emb_apply]
  simp only [Rect.off_unit, Rect.stride_unit, k0_off1_eq]
  fin_cases a <;> simp [ahead]

end Cert.Exchange

end
-- ==== Proof.Protocol.lean ====
/-
# Protocol: what the buffers hold, and which semaphore hands over what

Every device first tells the seven others, on their barrier semaphore, that it is in the kernel, and with that
hands each of them the slot of its communication buffer that the other writes. After its own barrier has seen seven
signals a device holds one slot on every other device and sends its seven blocks of rows there. A send's own semaphore gives
the rows back, the receiver's gives it the filled slot. The local copies (of the weights in, of the two halves of
the result out) each have a semaphore that gives back the source and the filled destination.
-/
module

public import proofs.«01_k».proof.Proof.Geometry

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the exchange: one family of rounds per semaphore, at most seven payments each. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## What the buffers hold -/

/-- Device `c`'s block of columns of `x`, as staged. -/
def xAt (c : Dev nD) : (cc0_stg0_0 : Ref sig .tc).ty.Contents (Elt F) :=
  (win0_0.blk (0 : Fin 1)).view.read (Elt F) ((s₀ m ρ).mem ((c : Thread nD τ).loc main_arg0))

/-- Device `c`'s copy of the weights. -/
def wAt (c : Dev nD) : (cc0_scratch1 : Ref sig .tc).ty.Contents (Elt F) := m ((c : Thread nD τ).loc main_arg1)

/-- The communication buffer of `c` once everything has landed: slot `j` holds the rows that the device `j + 1`
    places behind sent. -/
def landed (c : Dev nD) : (cc0_scratch0 : Ref sig .tc).ty.Contents (Elt F) := fun i =>
  xAt m ρ (behind c (i 0)) ((blkM (behind c (i 0)) (i 0)).view.emb (ix2 (i 1) (i 2) : S128x128.Idx))

/-- The rows of `x` device `c` keeps for itself. -/
def xOwn (c : Dev nD) : Vec F S128x128 .bf16 :=
  (xM).view.readAt (Elt F) (Rect.unit (s := S1024x128) (k0_off2 c) S128x128.size (k0_off2_inb c)).toLoadRect (xAt m ρ c)
/-- The rows of the weights device `c` multiplies them by. -/
def wOwn (c : Dev nD) : Vec F S128x1024 .bf16 :=
  (wM).view.readAt (Elt F) (Rect.unit (s := S1024x1024) (k0_off3 c) S128x1024.size (k0_off3_inb c)).toLoadRect (wAt m c)
/-- The rows of `x` received in slot `j`. -/
def xGot (c : Dev nD) (j : Fin 7) : Vec F S1x128x128 .bf16 :=
  (rM).view.readAt (Elt F) (slotR j).toLoadRect (landed m ρ c)
/-- The rows of the weights device `c` multiplies those by. -/
def wGot (c : Dev nD) (j : Fin 7) : Vec F S128x1024 .bf16 :=
  (wM).view.readAt (Elt F) (Rect.unit (s := S1024x1024) (k0_off4 c (BitVec.ofNat 32 (1 + j.val))) S128x1024.size (k0_off4_inb c j)).toLoadRect (wAt m c)

/-- The sum of the products, after all but the last slot. -/
def accBut (c : Dev nD) : FVec F S128x1024 .f32 :=
  k0_pay5
    (k0_pay4 (k0_pay2 (k0_pay1 (xOwn m ρ c) (wOwn m c) (xGot m ρ c 3) (wGot m c 3)) (xGot m ρ c 0) (wGot m c 0))
      (k0_pay3 (xGot m ρ c 6)) (wGot m c 6) (xGot m ρ c 2) (wGot m c 2))
    (xGot m ρ c 4) (wGot m c 4) (xGot m ρ c 1) (wGot m c 1)
/-- The sum of all eight products. -/
def acc (c : Dev nD) : FVec F S128x1024 .f32 := k0_pay6 (accBut m ρ c) (xGot m ρ c 5) (wGot m c 5)

/-- The kernel's activation on one element: `a / (1 + exp (0 - k (a + ((k' a) a) a)))`. -/
def act (a : F .f32) : F .f32 :=
  FloatOps.divf a (FloatOps.addf (Scalar.ofBits .f32 0x3F800000#32)
    (FloatOps.exp (FloatOps.subf (Scalar.ofBits .f32 0x00000000#32)
      (FloatOps.mulf (Scalar.ofBits .f32 0x3FCC422A#32)
        (FloatOps.addf a (FloatOps.mulf (FloatOps.mulf (FloatOps.mulf (Scalar.ofBits .f32 0x3D372713#32) a) a) a))))))

/-- The result of device `c`. -/
def outAt (c : Dev nD) : (cc0_scratch2 : Ref sig .tc).ty.Contents (Elt F) := fun i => act (acc m ρ c i)

end Cert.Exchange

end
-- ==== Proof.Schedule.lean ====
/-
# Schedule: the semaphores of the exchange, their payments, and the order the waits respect

Each device has eighteen semaphores in the exchange, numbered as `sem`: `0` the barrier, `1 + j` the send of slot `j`,
`8 + j` the arrival of slot `j`, `15` the copy of the weights, `16 + h` the copy of half `h` of the result. Each is
used for one round. The barrier's round has seven payments of one unit, every other a single payment.
-/
module

public import proofs.«01_k».proof.Proof.Protocol

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

abbrev barS : Sem sig := (SemArray.scalar (sig.barrier 0 rfl) : Sems sig S_).sem

/-- The semaphore with number `i`. -/
def sem : Fin 18 → SemLoc sig
  | ⟨0, _⟩ => .reg barS
  | ⟨n + 1, h⟩ => .dma (show DmaSem sig from ⟨n + 1, h⟩)
/-- The number of a semaphore. -/
def num : SemLoc sig → Fin 18
  | .reg _ => 0
  | .dma q => q
theorem num_sem (i : Fin 18) : num (sem i) = i := by revert i; decide
theorem sem_injective : Function.Injective sem := fun i j h => by rw [← num_sem i, ← num_sem j, h]

abbrev cell (c : Dev nD) (i : Fin 18) : GSem nD τ sig := ((c : Thread nD τ), sem i)

abbrev barI : Fin 18 := 0
abbrev sendI (j : Fin 7) : Fin 18 := ⟨j.val + 1, by omega⟩
abbrev recvI (j : Fin 7) : Fin 18 := ⟨j.val + 8, by omega⟩
abbrev wI : Fin 18 := 15
abbrev outI (h : Fin 2) : Fin 18 := ⟨h.val + 16, by omega⟩

/-- The units a block of rows is worth to a semaphore, the weights, half of the result. -/
abbrev blkN : ℕ := (slotM 0).view.dmaCredit
abbrev wN : ℕ := wM.view.dmaCredit
abbrev outN : ℕ := (halfH 0).view.dmaCredit

/-- The units of each payment to semaphore `i`. -/
def units (i : Fin 18) : ℕ := if i.val = 0 then 1 else if i.val < 15 then blkN else if i.val = 15 then wN else outN
theorem units_send (j : Fin 7) : units (sendI j) = blkN := by revert j; unfold units; decide +kernel
theorem units_recv (j : Fin 7) : units (recvI j) = blkN := by revert j; unfold units; decide +kernel
theorem units_pos (i : Fin 18) : 0 < units i := by
  unfold units
  have h1 : 0 < blkN := View.dmaCredit_pos _ (by decide)
  have h2 : 0 < wN := View.dmaCredit_pos _ (by decide)
  have h3 : 0 < outN := View.dmaCredit_pos _ (by decide)
  split_ifs <;> omega

/-! ## What the payments hand over -/

/-- Slot `j` of device `c`'s communication buffer, holding `f`'s elements. -/
def slotPts (c : Dev nD) (j : Fin 7) (f : (cc0_scratch0 : Ref sig .tc).ty.Contents (Elt F)) : sProp 𝕄 :=
  (slotM j).view.loc (c : Thread nD τ) ↦[(slotM j).view.set]{fullShare} f
/-- The rows device `c` sends to `ahead c j`. -/
def blkPts (c : Dev nD) (j : Fin 7) : sProp 𝕄 :=
  (blkM c j).view.loc (c : Thread nD τ) ↦[(blkM c j).view.set]{fullShare} xAt m ρ c
/-- Device `c`'s local copy of the weights, holding `f`. -/
def wPts (c : Dev nD) (f : (cc0_scratch1 : Ref sig .tc).ty.Contents (Elt F)) : sProp 𝕄 :=
  wM.view.loc (c : Thread nD τ) ↦[wM.view.set]{fullShare} f
/-- The weights as handed over at launch. -/
def wSrc (c : Dev nD) : sProp 𝕄 := wH.view.loc (c : Thread nD τ) ↦[wH.view.set]{fullShare} wAt m c
/-- Half `h` of the local copy of the result, and of the result array, holding `f`'s elements. -/
def halfPts (c : Dev nD) (h : Fin 2) (f : (cc0_scratch2 : Ref sig .tc).ty.Contents (Elt F)) : sProp 𝕄 :=
  (halfV h).view.loc (c : Thread nD τ) ↦[(halfV h).view.set]{fullShare} f
def outPts (c : Dev nD) (h : Fin 2) (f : (cc0_scratch2 : Ref sig .tc).ty.Contents (Elt F)) : sProp 𝕄 :=
  (halfH h).view.loc (c : Thread nD τ) ↦[(halfH h).view.set]{fullShare} f

omit [FloatOps F] in
instance slotPts_storable (c : Dev nD) (j f) : BI.Storable (upEmb : UEmb _ 𝕄) (slotPts (F := F) c j f) := by unfold slotPts; infer_instance
instance blkPts_storable (c : Dev nD) (j) : BI.Storable (upEmb : UEmb _ 𝕄) (blkPts (F := F) m ρ c j) := by unfold blkPts; infer_instance
omit [FloatOps F] in
instance wPts_storable (c : Dev nD) (f) : BI.Storable (upEmb : UEmb _ 𝕄) (wPts (F := F) c f) := by unfold wPts; infer_instance
omit [FloatOps F] in
instance wSrc_storable (c : Dev nD) : BI.Storable (upEmb : UEmb _ 𝕄) (wSrc (F := F) m c) := by unfold wSrc; infer_instance
omit [FloatOps F] in
instance halfPts_storable (c : Dev nD) (h f) : BI.Storable (upEmb : UEmb _ 𝕄) (halfPts (F := F) c h f) := by unfold halfPts; infer_instance
omit [FloatOps F] in
instance outPts_storable (c : Dev nD) (h f) : BI.Storable (upEmb : UEmb _ 𝕄) (outPts (F := F) c h f) := by unfold outPts; infer_instance

/-- What payment `d` to semaphore `i` of device `c` hands to `c`. The barrier's payment `d` comes from the device
    `d + 1` places behind and hands over that device's slot for `c`. -/
def pay (c : Dev nD) (i : Fin 18) (d : Fin 7) : sProp 𝕄 :=
  if i.val = 0 then iprop(∃ f, slotPts (behind c d) d.rev f)
  else if h : i.val < 8 then blkPts m ρ c ⟨i.val - 1, by omega⟩
  else if h : i.val < 15 then slotPts c ⟨i.val - 8, by omega⟩ (landed m ρ c)
  else if i.val = 15 then iprop(wPts c (wAt m c) ∗ wSrc m c)
  else iprop(outPts c ⟨i.val - 16, by omega⟩ (outAt m ρ c) ∗ halfPts c ⟨i.val - 16, by omega⟩ (outAt m ρ c))

instance pay_storable (c : Dev nD) (i : Fin 18) (d : Fin 7) : BI.Storable (upEmb : UEmb _ 𝕄) (pay m ρ c i d) := by
  unfold pay; (repeat' split) <;> infer_instance

theorem pay_bar (c : Dev nD) (d : Fin 7) : pay m ρ c barI d = iprop(∃ f, slotPts (behind c d) d.rev f) := by
  unfold pay; exact if_pos rfl
theorem pay_send (c : Dev nD) (j d : Fin 7) : pay m ρ c (sendI j) d = blkPts m ρ c j := by
  unfold pay
  rw [if_neg (by show ¬ j.val + 1 = 0; omega), dif_pos (show j.val + 1 < 8 by omega)]
  rfl
theorem pay_recv (c : Dev nD) (j d : Fin 7) : pay m ρ c (recvI j) d = slotPts c j (landed m ρ c) := by
  unfold pay
  rw [if_neg (by show ¬ j.val + 8 = 0; omega), dif_neg (show ¬ j.val + 8 < 8 by omega), dif_pos (show j.val + 8 < 15 by omega)]
  rfl
theorem pay_w (c : Dev nD) (d : Fin 7) : pay m ρ c wI d = iprop(wPts c (wAt m c) ∗ wSrc m c) := rfl
theorem pay_out (c : Dev nD) (h : Fin 2) (d : Fin 7) :
    pay m ρ c (outI h) d = iprop(outPts c h (outAt m ρ c) ∗ halfPts c h (outAt m ρ c)) := by
  revert h; intro h; fin_cases h <;> rfl

/-! ## The rounds -/

/-- One round, round `0`: seven payments at the barrier, one at any other semaphore. -/
def rounds : Rounds.Schedule (GSem nD τ sig) (Fin 7) 𝕄 where
  duties g r := if r = 0 ∧ g.1.2 = .tc then (if num g.2 = 0 then Finset.univ else {0}) else ∅
  unitless _ := False
  amount g _ _ := units (num g.2)
  payload g _ d := pay m ρ g.1.1 (num g.2) d
  amount_pos g _ _ _ := units_pos _

instance rounds_payload_storable (g : GSem nD τ sig) (r : ℕ) (d : Fin 7) :
    BI.Storable (upEmb : UEmb _ 𝕄) ((rounds (F := F) m ρ).payload g r d) := by
  show BI.Storable upEmb (pay m ρ g.1.1 (num g.2) d); infer_instance

section Tables
variable (c : Dev nD)

theorem duties_bar : (rounds m ρ).duties (cell c barI) 0 = Finset.univ := by
  dsimp only [rounds]; exact (if_pos ⟨rfl, rfl⟩).trans (if_pos (num_sem barI))
theorem duties_one {i : Fin 18} (hi : i ≠ 0) : (rounds m ρ).duties (cell c i) 0 = {0} := by
  dsimp only [rounds]; exact (if_pos ⟨rfl, rfl⟩).trans (if_neg (by rw [num_sem]; exact hi))
theorem mem_duties {i : Fin 18} {d : Fin 7} (h : i = 0 ∨ d = 0) : d ∈ (rounds m ρ).duties (cell c i) 0 := by
  by_cases hi : i = 0
  · subst hi; rw [duties_bar]; exact Finset.mem_univ _
  · rw [duties_one m ρ c hi, h.resolve_left hi]; exact Finset.mem_singleton_self _
theorem duties_later (g : GSem nD τ sig) : ∀ r, 1 ≤ r → (rounds m ρ).duties g r = ∅ :=
  fun r hr => if_neg fun h => by omega
theorem amount_cell (i : Fin 18) (d : Fin 7) : (rounds m ρ).amount (cell c i) 0 d = units i := by
  show units (num (sem i)) = _; rw [num_sem]
theorem payload_cell (i : Fin 18) (d : Fin 7) : (rounds m ρ).payload (cell c i) 0 d = pay m ρ c i d := by
  show pay m ρ c (num (sem i)) d = _; rw [num_sem]

theorem expect_bar : (rounds m ρ).expect (cell c barI) 0 = 7 := by
  unfold Schedule.expect Schedule.amountOf
  rw [duties_bar, Finset.sum_congr rfl fun d _ => amount_cell m ρ c barI d, Finset.sum_const, Finset.card_univ, Fintype.card_fin]
  rfl
theorem expect_one {i : Fin 18} (hi : i ≠ 0) : (rounds m ρ).expect (cell c i) 0 = units i := by
  unfold Schedule.expect Schedule.amountOf; rw [duties_one m ρ c hi, Finset.sum_singleton, amount_cell]

/-- What the barrier's whole round hands over: the slot for `c` on each other device, listed by where it is. -/
theorem rest_bar : bigSep ((rounds m ρ).duties (cell c barI) 0 \ ∅) (fun d => (rounds m ρ).payload (cell c barI) 0 d)
    = bigSep Finset.univ fun k : Fin 7 => iprop(∃ f, slotPts (F := F) (ahead c k) k f) := by
  rw [Finset.sdiff_empty, duties_bar, bigSep_univ_equiv Fin.revPerm]
  refine bigSep_congr fun k _ => ?_
  rw [payload_cell, pay_bar, Fin.revPerm_apply, behind_rev, Fin.rev_rev]
/-- What any other semaphore's round hands over. -/
theorem rest_one {i : Fin 18} (hi : i ≠ 0) :
    bigSep ((rounds m ρ).duties (cell c i) 0 \ ∅) (fun d => (rounds m ρ).payload (cell c i) 0 d) = pay m ρ c i 0 := by
  rw [Finset.sdiff_empty, duties_one m ρ c hi, bigSep_singleton, payload_cell]

end Tables

/-! ## What a device owes, and the levels -/

/-- The unit device `c` owes the barrier of the device `j + 1` places ahead. -/
abbrev barT (c : Dev nD) (j : Fin 7) : CellTallies nD τ sig Unit := tallyAt (cell (ahead c j) barI) () 1
/-- The rows device `c` owes that device. -/
abbrev recvT (c : Dev nD) (j : Fin 7) : CellTallies nD τ sig Unit := tallyAt (cell (ahead c j) (recvI j)) () blkN

/-- The debt that a list of tallies makes, the head of the list to be paid first. -/
def owedOf : List (CellTallies nD τ sig Unit) → CellTallies nD τ sig Unit
  | [] => 0
  | t :: l => owedOf l + t

/-- The sends a device owes, in the order the kernel makes them; and the signals before them. -/
abbrev sendsOwed (c : Dev nD) : List (CellTallies nD τ sig Unit) :=
  [recvT c 1, recvT c 5, recvT c 2, recvT c 4, recvT c 0, recvT c 6, recvT c 3]
abbrev allOwed (c : Dev nD) : List (CellTallies nD τ sig Unit) :=
  barT c 0 :: barT c 1 :: barT c 2 :: barT c 3 :: barT c 4 :: barT c 5 :: barT c 6 :: sendsOwed c

/-- What device `c` owes at launch. -/
def O₀ (c : Dev nD) : CellTallies nD τ sig Unit := owedOf (allOwed c)

theorem O₀_eq (c : Dev nD) : O₀ c = (∑ j, barT c j) + ∑ j, recvT c j := by
  simp only [O₀, owedOf, allOwed, sendsOwed, Fin.sum_univ_succ, Fin.sum_univ_zero, Fin.isValue]
  show _ = (barT c 0 + (barT c 1 + (barT c 2 + (barT c 3 + (barT c 4 + (barT c 5 + (barT c 6 + 0)))))))
    + (recvT c 0 + (recvT c 1 + (recvT c 2 + (recvT c 3 + (recvT c 4 + (recvT c 5 + (recvT c 6 + 0)))))))
  simp only [add_zero, zero_add]
  ac_rfl

theorem owedOf_pos {l : List (CellTallies nD τ sig Unit)} {g : GSem nD τ sig} {u : Unit} (h : 0 < owedOf l g u) : ∃ t ∈ l, 0 < t g u := by
  induction l with
  | nil => exact absurd h (Nat.lt_irrefl 0)
  | cons t l ih =>
    rw [owedOf, Pi.add_apply, Finsupp.add_apply] at h
    by_cases ht : 0 < t g u
    · exact ⟨t, List.mem_cons_self, ht⟩
    · obtain ⟨t', h1, h2⟩ := ih (by omega)
      exact ⟨t', List.mem_cons_of_mem _ h1, h2⟩

theorem tallyAt_pos {g₀ g : GSem nD τ sig} {n : ℕ} {u : Unit} (h : 0 < tallyAt g₀ () n g u) : g = g₀ := by
  rw [tallyAt_apply] at h
  by_contra hn
  rw [if_neg fun h' => hn h'.1] at h
  exact Nat.lt_irrefl 0 h

/-- A device owes arrivals, and, before its signals, barrier units: nothing else. -/
theorem sendsOwed_pos {c : Dev nD} {g : GSem nD τ sig} {u : Unit} (h : 0 < owedOf (sendsOwed c) g u) :
    ∃ j, g = cell (ahead c j) (recvI j) := by
  obtain ⟨t, ht, h⟩ := owedOf_pos h
  simp only [List.mem_cons, List.not_mem_nil, or_false] at ht
  rcases ht with rfl | rfl | rfl | rfl | rfl | rfl | rfl <;> exact ⟨_, tallyAt_pos h⟩
theorem O₀_pos {c : Dev nD} {g : GSem nD τ sig} {u : Unit} (h : 0 < O₀ c g u) :
    ∃ j, g = cell (ahead c j) (recvI j) ∨ g = cell (ahead c j) barI := by
  obtain ⟨t, ht, h⟩ := owedOf_pos h
  simp only [List.mem_cons, List.not_mem_nil, or_false] at ht
  rcases ht with rfl | rfl | rfl | rfl | rfl | rfl | rfl | rfl | rfl | rfl | rfl | rfl | rfl | rfl <;>
    first | exact ⟨_, .inr (tallyAt_pos h)⟩ | exact ⟨_, .inl (tallyAt_pos h)⟩

def L (g : GSem nD τ sig) : Finset Unit := if g.1.2 = .tc then {()} else ∅
/-- A semaphore's height: arrivals above the barrier above everything else. -/
def height : SemLoc sig → ℕ
  | .reg _ => 1
  | .dma q => if 8 ≤ (show Fin 18 from q).val ∧ (show Fin 18 from q).val < 15 then 2 else 0
def lv (g : GSem nD τ sig) (_ : Unit) : ℕ := height g.2

theorem height_bar : height (sem barI) = 1 := rfl
theorem height_recv (j : Fin 7) : height (sem (recvI j)) = 2 := by revert j; decide

theorem L_of_ne (g : GSem nD τ sig) (h : g.1.2 ≠ .tc) : L g = ∅ := if_neg h
theorem L_tc (c : Dev nD) (sm : SemLoc sig) : L ((c : Thread nD τ), sm) = {()} := if_pos rfl

/-- A wait is allowed when everything owed is above it. -/
theorem mayWait_of (c : Dev nD) (sm : SemLoc sig) (h : ℕ) (O : CellTallies nD τ sig Unit) (hs : height sm ≤ h)
    (hO : ∀ g u, 0 < O g u → h < height g.2 ∧ g.1.2 = .tc) : (levAts L lv : sProp 𝕄) ⊢ MayWait (c : Thread nD τ) sm () O :=
  MayOwe.of_cut (L := L) (lev := lv) h (fun p hp => by rw [Finset.mem_singleton.mp hp, L_tc]; exact Finset.mem_singleton_self _)
    (fun g u hg => by unfold L; rw [if_pos (hO g u hg).2]; exact Finset.mem_singleton_self _)
    (fun p hp => by rw [Finset.mem_singleton.mp hp]; exact hs)
    (fun g u hg => (hO g u hg).1)

/-- At the barrier a device owes arrivals only. -/
theorem mayWait_bar (c : Dev nD) : (levAts L lv : sProp 𝕄) ⊢ MayWait (c : Thread nD τ) (sem barI) () (owedOf (sendsOwed c)) :=
  mayWait_of c _ 1 _ (le_of_eq height_bar) fun g u hg => by
    obtain ⟨j, rfl⟩ := sendsOwed_pos hg
    exact ⟨by show 1 < height (sem (recvI j)); rw [height_recv]; decide, rfl⟩

/-- The wait for the staged input is allowed with everything still owed. -/
theorem mayWait_stage (c : Dev nD) (sm : SemLoc sig) (hs : height sm = 0) (O : CellTallies nD τ sig Unit) (hO : O = O₀ c ∨ O = 0) :
    (levAts L lv : sProp 𝕄) ⊢ MayWait (c : Thread nD τ) sm () O := by
  rcases hO with rfl | rfl
  · refine mayWait_of c _ 0 _ (le_of_eq hs) fun g u hg => ?_
    obtain ⟨j, rfl | rfl⟩ := O₀_pos hg
    · exact ⟨by show 0 < height (sem (recvI j)); rw [height_recv]; decide, rfl⟩
    · exact ⟨by show 0 < height (sem barI); rw [height_bar]; decide, rfl⟩
  · rw [MayWait_zero]; iintro -; iempintro

end Cert.Exchange

end
-- ==== Proof.Steps.lean ====
/-
# Steps: what each kind of effect of the kernel does to the exchange

One theorem for each kind of effect, for every slot, half and device: a signal, a send, a local copy, the wait at the
barrier, any other wait.
-/
module

public import proofs.«01_k».proof.Proof.Schedule

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Every semaphore's invariant, under the names `K`, and that each is at its first round. -/
def recs (K : Dev nD × Fin 18 → ℕ) : sProp 𝕄 :=
  iprop((bigSep Finset.univ fun ci : Dev nD × Fin 18 => cellInv ER (rounds m ρ) (K ci) (cell ci.1 ci.2))
    ∗ bigSep Finset.univ fun ci : Dev nD × Fin 18 => reached ER (cell ci.1 ci.2) 0)

instance recs_persistent (K : Dev nD × Fin 18 → ℕ) : BI.Persistent (recs m ρ K) := by unfold recs; infer_instance

variable (K : Dev nD × Fin 18 → ℕ)

theorem recs_inv (c : Dev nD) (i : Fin 18) : recs m ρ K ⊢ cellInv ER (rounds m ρ) (K (c, i)) (cell c i) := by
  have h : (bigSep Finset.univ fun ci : Dev nD × Fin 18 => (cellInv ER (rounds m ρ) (K ci) (cell ci.1 ci.2) : sProp 𝕄))
      ⊢ cellInv ER (rounds m ρ) (K (c, i)) (cell c i) := bigSep_elim (Finset.mem_univ (c, i))
  unfold recs; iintro ⟨H, -⟩; iapply h; iexact H
theorem recs_reached (c : Dev nD) (i : Fin 18) : recs m ρ K ⊢ reached ER (cell c i) 0 := by
  have h : (bigSep Finset.univ fun ci : Dev nD × Fin 18 => (reached ER (cell ci.1 ci.2) 0 : sProp 𝕄))
      ⊢ reached ER (cell c i) 0 := bigSep_elim (Finset.mem_univ (c, i))
  unfold recs; iintro ⟨-, H⟩; iapply h; iexact H

/-- Device `c` owes what the list `l` makes, whatever it has waited for so far. -/
def debt (c : Dev nD) (l : List (CellTallies nD τ sig Unit)) : sProp 𝕄 := iprop(∃ W, owes (c : Thread nD τ) (owedOf l) W)

/-- What a device holds of a semaphore before it waits on it: its place at the start of the only round. -/
abbrev place (c : Dev nD) (i : Fin 18) : sProp 𝕄 := atPos ER (cell c i) 0 ∅ 0
/-- The right to make payment `d` to semaphore `i` of device `c`. -/
abbrev duty (c : Dev nD) (i : Fin 18) (d : Fin 7) : sProp 𝕄 := dutyTok ER (cell c i) 0 d

/-- The signal to the device `j + 1` places ahead hands over the slot that device writes. -/
theorem step_signal {α : Type} {Q : α → sProp 𝕄} {k : PUnit → Prog (TpuEff nD τ sig (Elt F) Λ₀ .tc) α}
    (c n : Dev nD) (j : Fin 7) (hn : n = ahead c j) (l : List (CellTallies nD τ sig Unit)) :
    recs m ρ K ⊢ iprop(debt c (barT c j :: l) -∗ duty (ahead c j) barI j -∗ (∃ f, slotPts c j.rev f)
      -∗ (debt c l -∗ wp frame (wpE (defs₀ (F := F)) 𝒱₀ c none) Set.univ (k ⟨⟩) Q)
      -∗ wp frame (wpE (defs₀ (F := F)) 𝒱₀ c none) Set.univ (.op (.semSignal (Dev.tc n) barS ((1#32 : BitVec 32).toInt.toNat)) k) Q) := by
  subst hn
  iintro #HR HO Ht Hs Hk
  unfold debt
  icases HO with ⟨%W, HO⟩
  iapply (Rounds.wp_signal 𝒱₀ ER (rounds m ρ) (c : Thread nD τ) none (dst := (ahead c j : Thread nD τ)) (κ := K (ahead c j, barI))
      (d := j) (mem_duties m ρ (ahead c j) (i := barI) (.inl rfl)) ((amount_cell m ρ (ahead c j) barI j).trans (by decide)) () (owedOf l) rfl)
    $$ [HO Ht Hs]
  · isplitr; · iapply (recs_inv m ρ K (ahead c j) barI); iexact HR
    isplitl [HO]; · iexact HO
    isplitl [Ht]; · iexact Ht
    isplitl [Hs]
    · have hp : (rounds m ρ).payload ((ahead c j : Thread nD τ), .reg barS) 0 j = iprop(∃ f, slotPts c j.rev f) :=
        (payload_cell m ρ (ahead c j) barI j).trans ((pay_bar m ρ (ahead c j) j).trans (by rw [behind_ahead]))
      iapply (Entails.of_eq hp.symm); iexact Hs
    iapply (recs_reached m ρ K (ahead c j) barI); iexact HR
  iintro HO
  iapply Hk
  iexists W; iexact HO

theorem landed_at (c : Dev nD) (j : Fin 7) (x y : Fin 128) :
    landed m ρ c (ix3 j x y : S7x128x128.Idx) = xAt m ρ (behind c j) ((blkM (behind c j) j).view.emb (ix2 x y : S128x128.Idx)) := rfl

/-- What a send writes into slot `j` of the device `j + 1` places ahead is what is to land there. -/
theorem send_lands (c : Dev nD) (j : Fin 7) (f : (cc0_scratch0 : Ref sig .tc).ty.Contents (Elt F)) :
    slotPts (F := F) (ahead c j) j ((slotM j).view.write (Elt F) f ((blkM c j).view.read (Elt F) (xAt m ρ c)) Finset.univ)
      = slotPts (ahead c j) j (landed m ρ (ahead c j)) := by
  unfold slotPts
  refine pointsTo_congr fun i hi => ?_
  rw [View.set, Finset.mem_map] at hi
  obtain ⟨z, -, rfl⟩ := hi
  obtain ⟨x, y, rfl⟩ : ∃ x y : Fin 128, z = (ix2 x y : S128x128.Idx) := ⟨z 0, z 1, eq_ix2 z⟩
  rw [View.write_emb_of_mem (Val := Elt F) (v := (slotM j).view) (h := Finset.mem_univ _), View.read_apply, slotM_emb, landed_at, behind_ahead]
  rfl

theorem slot_amount (j : Fin 7) : (slotM j).view.amount (sem (recvI j)) = blkN := by
  show (slotM j).view.dmaCredit = _
  rfl

/-- The send of the rows for the device `j + 1` places ahead, into the slot that device handed over. -/
theorem step_send {α : Type} {Q : α → sProp 𝕄} {k : PUnit → Prog (TpuEff nD τ sig (Elt F) Λ₀ .tc) α}
    (c n : Dev nD) (j : Fin 7) (hn : n = ahead c j) (l : List (CellTallies nD τ sig Unit))
    {hsc : (slotM j : Memref sig (Dev.tc n : Thread nD τ).2.kind .vmem S128x128 .bf16).view.ref.isScScratch = false}
    {hsrc : (blkM c j).view.WordExact} {hdst : (slotM j).view.WordExact}
    {hsem : DmaTarget.Typed .vmem (sem (recvI j)) (.remote (Dev.tc n : Thread nD τ) (slotM j) (sem (sendI j)) hsc)} :
    recs m ρ K ⊢ iprop(debt c (recvT c j :: l) -∗ duty c (sendI j) 0 -∗ duty (ahead c j) (recvI j) 0
      -∗ blkPts m ρ c j -∗ (∃ f, slotPts (ahead c j) j f)
      -∗ (debt c l -∗ cred (tallyAt (cell c (sendI j)) () (units (sendI j))) -∗ wp frame (wpE (defs₀ (F := F)) 𝒱₀ c none) Set.univ (k ⟨⟩) Q)
      -∗ wp frame (wpE (defs₀ (F := F)) 𝒱₀ c none) Set.univ
        (.op (.enqueueDma (blkM c j) (.remote (Dev.tc n : Thread nD τ) (slotM j) (sem (sendI j)) hsc) (sem (recvI j)) hsrc hdst hsem) k) Q) := by
  subst hn
  iintro #HR HO Ht1 Ht2 Hb ⟨%f, Hs⟩ Hk
  unfold debt
  icases HO with ⟨%W, HO⟩
  rw [units_send]
  unfold slotPts blkPts
  iapply (Rounds.wp_send_pointsTo 𝒱₀ ER (rounds m ρ) (c : Thread nD τ) none (κ₁ := K (c, sendI j)) (κ₂ := K (ahead c j, recvI j))
      (r₁ := 0) (r₂ := 0) (d₁ := 0) (d₂ := 0) (fd := f) (mem_duties m ρ c (.inr rfl)) (mem_duties m ρ (ahead c j) (.inr rfl))
      () () blkN (slot_amount j) ((amount_cell m ρ c (sendI j) 0).trans (units_send j))
      ((amount_cell m ρ (ahead c j) (recvI j) 0).trans (units_recv j)) (owedOf l) rfl (W := W)
      (by rw [payload_cell, pay_send]; exact BI.Entails.refl _)
      (by rw [payload_cell, pay_recv, ← send_lands m ρ c j f]; exact BI.Entails.refl _)) $$ [HO Ht1 Ht2 Hb Hs]
  · isplitr; · iapply (recs_inv m ρ K); iexact HR
    isplitr; · iapply (recs_inv m ρ K); iexact HR
    isplitl [Hb]; · iexact Hb
    isplitl [Hs]; · iexact Hs
    isplitl [HO]; · iexact HO
    isplitl [Ht1]; · iexact Ht1
    isplitr; · iapply (recs_reached m ρ K c (sendI j)); iexact HR
    isplitl [Ht2]; · iexact Ht2
    iapply (recs_reached m ρ K (ahead c j) (recvI j)); iexact HR
  iintro ⟨Hc, HO⟩
  iapply Hk $$ [HO] Hc
  iexists W; iexact HO

/-- A local copy through semaphore `i`, whose payment is the filled destination and the source. -/
theorem step_copy {α : Type} {Q : α → sProp 𝕄} {k : PUnit → Prog (TpuEff nD τ sig (Elt F) Λ₀ .tc) α}
    (c : Dev nD) (i : Fin 18) {sp sp' : Space} {s : Shape} {e : EltTy}
    {src : Memref sig (c : Thread nD τ).2.kind sp s e} {dst : Memref sig (c : Thread nD τ).2.kind sp' s e} {sm : SemLoc sig} (hs : sm = sem i)
    {hsrc : src.view.WordExact} {hdst : dst.view.WordExact} {hsem : DmaTarget.Typed (nD := nD) sp sm (.here dst)}
    (fs : Buf (Elt F) (src.view.loc (c : Thread nD τ))) (fd : Buf (Elt F) (dst.view.loc (c : Thread nD τ)))
    (hN : dst.view.amount (sem i) = units i)
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay m ρ c i 0) :
    recs m ρ K ⊢ iprop(duty c i 0 -∗ (src.view.loc (c : Thread nD τ) ↦[src.view.set]{fullShare} fs)
      -∗ (dst.view.loc (c : Thread nD τ) ↦[dst.view.set]{fullShare} fd)
      -∗ (cred (tallyAt (cell c i) () (units i)) -∗ wp frame (wpE (defs₀ (F := F)) 𝒱₀ c none) Set.univ (k ⟨⟩) Q)
      -∗ wp frame (wpE (defs₀ (F := F)) 𝒱₀ c none) Set.univ (.op (.enqueueDma src (.here dst) sm hsrc hdst hsem) k) Q) := by
  subst hs
  iintro #HR Ht Hs Hd Hk
  iapply (Rounds.wp_copy_pointsTo 𝒱₀ ER (rounds m ρ) (c : Thread nD τ) none (κ := K (c, i)) (r := 0) (d := 0)
      (mem_duties m ρ c (.inr rfl)) () (units i) hN (amount_cell m ρ c i 0) (by rw [payload_cell]; exact hpay)) $$ [Ht Hs Hd]
  · isplitr; · iapply (recs_inv m ρ K); iexact HR
    isplitl [Hs]; · iexact Hs
    isplitl [Hd]; · iexact Hd
    isplitl [Ht]; · iexact Ht
    iapply (recs_reached m ρ K c i); iexact HR
  iintro Hc
  iapply Hk; iexact Hc

/-- The wait at the barrier, for all seven signals, hands over the slot for `c` on every other device. -/
theorem step_barrier {α : Type} {Q : α → sProp 𝕄} {k : PUnit → Prog (TpuEff nD τ sig (Elt F) Λ₀ .tc) α}
    (c : Dev nD) :
    recs m ρ K ⊢ iprop(levAts L lv -∗ cred (tallyAt (cell c barI) () 7) -∗ place c barI -∗ debt c (sendsOwed c)
      -∗ (debt c (sendsOwed c) -∗ semVal (cell c barI) 0 -∗ (bigSep Finset.univ fun j : Fin 7 => iprop(∃ f, slotPts (ahead c j) j f))
        -∗ wp frame (wpE (defs₀ (F := F)) 𝒱₀ c none) Set.univ (k ⟨⟩) Q)
      -∗ wp frame (wpE (defs₀ (F := F)) 𝒱₀ c none) Set.univ (.op (.semWait barS ((7#32 : BitVec 32).toInt.toNat)) k) Q) := by
  iintro #HR #Hlev Hc Hat HO Hk
  unfold debt
  icases HO with ⟨%W, HO⟩
  iapply (Rounds.wp_wait_rest_token 𝒱₀ ER (rounds m ρ) (c : Thread nD τ) none (κ := K (c, barI))
      (wpE_semWait_eq 𝒱₀ (c : Thread nD τ) none Set.univ) (Set.mem_univ _) () (O := owedOf (sendsOwed c)) (W := W) (R := 0) (m := 0) (T := ∅)
      (show 0 + (7#32 : BitVec 32).toInt.toNat = (rounds m ρ).expect (cell c barI) 0 by rw [expect_bar]; decide)) $$ [Hc HO Hat]
  · isplitr; · iapply (recs_inv m ρ K c barI); iexact HR
    isplitl [Hc]; · iexact Hc
    isplitl [HO]; · iexact HO
    isplitr; · iapply (mayWait_bar c); iexact Hlev
    iexact Hat
  iintro ⟨HO, Hat, -, Hpay⟩
  have hr : bigSep ((rounds m ρ).duties ((c : Thread nD τ), .reg barS) 0 \ ∅) (fun d => (rounds m ρ).payload ((c : Thread nD τ), .reg barS) 0 d)
      = bigSep Finset.univ fun j : Fin 7 => iprop(∃ f, slotPts (F := F) (ahead c j) j f) := rest_bar m ρ c
  ihave Hp := (Entails.of_eq hr) $$ Hpay
  imod (Rounds.cell_close ER (rounds m ρ) (Set.mem_univ (K (c, barI))) (fun h => h) (R := 0 + 1) (duties_later m ρ (cell c barI))) $$ [Hat] with Hz
  · isplitr; · iapply (recs_inv m ρ K c barI); iexact HR
    iexact Hat
  iapply Hk $$ [HO] Hz Hp
  iexists _; iexact HO

/-- The wait on a copy's or a send's semaphore, by a device that owes nothing any more, hands over its payment. -/
theorem step_wait {α : Type} {Q : α → sProp 𝕄} {k : PUnit → Prog (TpuEff nD τ sig (Elt F) Λ₀ .tc) α}
    (c : Dev nD) (i : Fin 18) (hi : i ≠ 0) {sp sp' : Space} {s s' : Shape} {e e' : EltTy} {sm : DmaSem sig} (hs : SemLoc.dma sm = sem i)
    {src : Memref sig .tc sp' s' e'} {dst : Memref sig .tc sp s e} {hsrc : src.view.WordExact} {hdst : dst.view.WordExact}
    (hN : dst.view.dmaCredit = units i) :
    recs m ρ K ⊢ iprop(cred (tallyAt (cell c i) () (units i)) -∗ place c i -∗ debt c []
      -∗ (debt c [] -∗ semVal (cell c i) 0 -∗ pay m ρ c i 0 -∗ wp frame (wpE (defs₀ (F := F)) 𝒱₀ c none) Set.univ (k ⟨⟩) Q)
      -∗ wp frame (wpE (defs₀ (F := F)) 𝒱₀ c none) Set.univ (.op (.waitDma2 sm src dst hsrc hdst) k) Q) := by
  iintro #HR Hc Hat HO Hk
  unfold debt
  icases HO with ⟨%W, HO⟩
  unfold place
  rw [← hN, ← rest_one m ρ c hi]
  dsimp only [cell]
  rw [← hs]
  iapply (Rounds.wp_wait_rest_token 𝒱₀ ER (rounds m ρ) (c : Thread nD τ) none (κ := K (c, i))
      (wpE_waitDma2_eq 𝒱₀ (c : Thread nD τ) none Set.univ) (Set.mem_univ _) () (O := 0) (W := W) (R := 0) (m := 0) (T := ∅)
      (by rw [Nat.zero_add, hN, hs]; exact (expect_one m ρ c hi).symm)) $$ [Hc HO Hat]
  · isplitr; · rw [hs]; iapply (recs_inv m ρ K c i); iexact HR
    isplitl [Hc]; · iexact Hc
    isplitl [HO]; · iexact HO
    isplitr; · rw [MayWait_zero]; iempintro
    iexact Hat
  iintro ⟨HO, Hat, -, Hpay⟩
  imod (Rounds.cell_close ER (rounds m ρ) (Set.mem_univ (K (c, i))) (fun h => h) (R := 0 + 1) (duties_later m ρ (cell c i))) $$ [Hat] with Hz
  · isplitr; · iapply (recs_inv m ρ K c i); iexact HR
    dsimp only [cell]; rw [← hs]; iexact Hat
  dsimp only [cell]
  rw [← hs]
  iapply Hk $$ [HO] Hz Hpay
  iexists _; iexact HO

end Cert.Exchange

end
-- ==== Proof.Access.lean ====
/-
# Access: the kernel's loads and stores, and what the copies of the result write

Each load reads what `Protocol` says the buffer holds there; each store fills one half of the local copy of the result.
-/
module

public import proofs.«01_k».proof.Proof.Steps
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Elements of a whole buffer are themselves. -/
theorem setOn_whole_le (b : Ref sig .tc) (I : Finset b.ty.shape.Idx) : (View.whole b).setOn I ⊆ I := fun i hi => by
  rw [View.setOn, Finset.mem_map] at hi
  obtain ⟨z, hz, rfl⟩ := hi
  exact hz

/-- The rows of `x` device `c` keeps for itself. -/
def ownPts (c : Dev nD) : sProp 𝕄 := xM.view.loc (c : Thread nD τ) ↦[(rowsR c).set]{fullShare} xAt m ρ c

/-- The rows a device keeps, as the kernel writes the rectangle. -/
theorem own_set (c : Dev nD) : (Rect.unit (s := S1024x128) (k0_off2 c) S128x128.size (k0_off2_inb c)).set = (rowsR c).set := by
  ext i
  rw [Rect.mem_set_unit, Rect.mem_set_unit, k0_off2_eq]

theorem load_own {α : Type} {Q : α → sProp 𝕄} (c : Dev nD)
    {k : ((Rect.unit (s := S1024x128) (k0_off2 c) S128x128.size (k0_off2_inb c)).toLoadRect.shape.Idx → Elt F .bf16) → Prog (TpuEff nD τ sig (Elt F) Λ₀ .tc) α}
    {hl : xM.view.LoadsAt (Rect.unit (s := S1024x128) (k0_off2 c) S128x128.size (k0_off2_inb c)).toLoadRect} :
    ownPts m ρ c ⊢ iprop((ownPts m ρ c -∗ wp frame (wpE (defs₀ (F := F)) 𝒱₀ c none) Set.univ (k (xOwn m ρ c)) Q)
      -∗ wp frame (wpE (defs₀ (F := F)) 𝒱₀ c none) Set.univ
        (.op (.load xM (Rect.unit (s := S1024x128) (k0_off2 c) S128x128.size (k0_off2_inb c)).toLoadRect hl) k) Q) := by
  unfold ownPts
  exact wp_load 𝒱₀ (c : Thread nD τ) none Set.univ (m := xM) (by rw [← own_set]; exact setOn_whole_le _ _)

theorem load_weights {α : Type} {Q : α → sProp 𝕄} (c : Dev nD) (r : LoadRect S1024x1024) (f : (cc0_scratch1 : Ref sig .tc).ty.Contents (Elt F))
    {k : (r.shape.Idx → Elt F .bf16) → Prog (TpuEff nD τ sig (Elt F) Λ₀ .tc) α} {hl : wM.view.LoadsAt r} :
    wPts c f ⊢ iprop((wPts c f -∗ wp frame (wpE (defs₀ (F := F)) 𝒱₀ c none) Set.univ (k (wM.view.readAt (Elt F) r f)) Q)
      -∗ wp frame (wpE (defs₀ (F := F)) 𝒱₀ c none) Set.univ (.op (.load wM r hl) k) Q) := by
  unfold wPts
  exact wp_load 𝒱₀ (c : Thread nD τ) none Set.univ (m := wM) (by rw [View.set_whole]; exact Finset.subset_univ _)

theorem load_slot {α : Type} {Q : α → sProp 𝕄} (c : Dev nD) (j : Fin 7)
    {k : ((slotR j).toLoadRect.shape.Idx → Elt F .bf16) → Prog (TpuEff nD τ sig (Elt F) Λ₀ .tc) α} {hl : rM.view.LoadsAt (slotR j).toLoadRect} :
    slotPts c j (landed m ρ c) ⊢ iprop((slotPts c j (landed m ρ c) -∗ wp frame (wpE (defs₀ (F := F)) 𝒱₀ c none) Set.univ (k (xGot m ρ c j)) Q)
      -∗ wp frame (wpE (defs₀ (F := F)) 𝒱₀ c none) Set.univ (.op (.load rM (slotR j).toLoadRect hl) k) Q) := by
  unfold slotPts
  exact wp_load 𝒱₀ (c : Thread nD τ) none Set.univ (m := rM) (by rw [slotM_set]; exact setOn_whole_le _ _)

/-- A load of half of the local copy of the result; nothing depends on what it reads. -/
theorem load_half {α : Type} {Q : α → sProp 𝕄} (c : Dev nD) (h : Fin 2) (f : (cc0_scratch2 : Ref sig .tc).ty.Contents (Elt F))
    {k : ((halfR h).toLoadRect.shape.Idx → Elt F .f32) → Prog (TpuEff nD τ sig (Elt F) Λ₀ .tc) α} {hl : oM.view.LoadsAt (halfR h).toLoadRect} :
    halfPts c h f ⊢ iprop((halfPts c h f -∗ wp frame (wpE (defs₀ (F := F)) 𝒱₀ c none) Set.univ (k (oM.view.readAt (Elt F) (halfR h).toLoadRect f)) Q)
      -∗ wp frame (wpE (defs₀ (F := F)) 𝒱₀ c none) Set.univ (.op (.load oM (halfR h).toLoadRect hl) k) Q) := by
  unfold halfPts
  exact wp_load 𝒱₀ (c : Thread nD τ) none Set.univ (m := oM) (by rw [halfV_set]; exact setOn_whole_le _ _)

/-- A store of half `h` of the result. -/
theorem store_half {α : Type} {Q : α → sProp 𝕄} (c : Dev nD) (h : Fin 2) (f : (cc0_scratch2 : Ref sig .tc).ty.Contents (Elt F))
    (v : FVec F S128x512 .f32) (hv : v = fun z => outAt m ρ c ((halfV h).view.emb z))
    {k : PUnit → Prog (TpuEff nD τ sig (Elt F) Λ₀ .tc) α} {hx : (oM.access (halfR h)).Stores Finset.univ}
    {hm : (Finset.univ : Finset (halfR h).shape.Idx) = Finset.univ ∨ ∀ a, (halfR h).stride a = 1} :
    halfPts c h f ⊢ iprop((halfPts c h (outAt m ρ c) -∗ wp frame (wpE (defs₀ (F := F)) 𝒱₀ c none) Set.univ (k ⟨⟩) Q)
      -∗ wp frame (wpE (defs₀ (F := F)) 𝒱₀ c none) Set.univ (.op (.store oM (halfR h) v Finset.univ hx hm) k) Q) := by
  have hw : halfPts (F := F) c h ((oM.access (halfR h)).write (Elt F) f v Finset.univ) = halfPts c h (outAt m ρ c) := by
    unfold halfPts
    refine pointsTo_congr fun i hi => ?_
    rw [View.set, Finset.mem_map] at hi
    obtain ⟨z, -, rfl⟩ := hi
    exact (View.write_emb_of_mem (Val := Elt F) (v := oM.access (halfR h)) f v (Finset.mem_univ z)).trans (congrFun hv z)
  rw [← hw]
  unfold halfPts
  exact wp_store 𝒱₀ (c : Thread nD τ) none Set.univ (m := oM) (r := halfR h) (Mk := Finset.univ) (Finset.Subset.refl _)

/-! ## What the kernel stores, and what the copies of it write -/

/-- The first store's value: the activation of the sum, on the left half. -/
theorem left_value (c : Dev nD) :
    k0_pay7 (accBut m ρ c) (xGot m ρ c 5) (wGot m c 5) = fun z => outAt m ρ c ((halfV 0).view.emb z) := by
  funext z
  unfold k0_pay7
  dsimp only
  rw [shapeCast_self]
  show act (acc m ρ c _) = act (acc m ρ c _)
  refine congrArg (fun i => act (acc m ρ c i)) (funext fun a => Fin.ext ?_)
  show _ = ((halfR 0).emb z a).val
  rw [Rect.emb_apply]
  fin_cases a <;> simp <;> rfl
/-- The second store's, on the right half. -/
theorem right_value (c : Dev nD) : k0_pay8 (acc m ρ c) = fun z => outAt m ρ c ((halfV 1).view.emb z) := by
  funext z
  unfold k0_pay8
  dsimp only
  rw [shapeCast_self]
  show act (acc m ρ c _) = act (acc m ρ c _)
  refine congrArg (fun i => act (acc m ρ c i)) (funext fun a => Fin.ext ?_)
  show _ = ((halfR 1).emb z a).val
  rw [Rect.emb_apply]
  fin_cases a <;> simp <;> rfl

/-- The copy of a filled half fills that half of the result array. -/
theorem half_lands (c : Dev nD) (h : Fin 2) (f : (cc0_scratch2 : Ref sig .tc).ty.Contents (Elt F)) :
    outPts (F := F) c h ((halfH h).view.write (Elt F) f ((halfV h).view.read (Elt F) (outAt m ρ c)) Finset.univ) = outPts c h (outAt m ρ c) := by
  unfold outPts
  refine pointsTo_congr fun i hi => ?_
  rw [View.set, Finset.mem_map] at hi
  obtain ⟨z, -, rfl⟩ := hi
  exact View.write_emb_of_mem (Val := Elt F) (v := (halfH h).view) f _ (Finset.mem_univ z)

/-- The copy of the weights holds the weights. -/
theorem weights_land (c : Dev nD) (f : (cc0_scratch1 : Ref sig .tc).ty.Contents (Elt F)) :
    wM.view.write (Elt F) f (wH.view.read (Elt F) (wAt m c)) Finset.univ = wAt m c := by
  show (View.whole cc0_scratch1).write (Elt F) f ((View.whole main_arg1).read (Elt F) (wAt m c)) Finset.univ = wAt m c
  rw [View.read_whole]
  exact View.write_whole_univ _ _ _

end Cert.Exchange

end
-- ==== Proof.Body.lean ====
/-
# Body: one device's run of the kernel

From what `bodyPre` says a device starts with, the kernel runs to its end, and leaves what `bodyPost` says.
-/
module

public import proofs.«01_k».proof.Proof.Access

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 18 → ℕ)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin2 (Φ : Fin 2 → sProp 𝕄) : bigSep Finset.univ Φ = iprop(Φ 0 ∗ Φ 1) := bigSep_univ_eq_bigSepL [0, 1] (by decide) (by decide) Φ

/-- One resource for each of a device's semaphores. -/
def eachCell (Φ : Fin 18 → sProp 𝕄) : sProp 𝕄 :=
  iprop(Φ barI ∗ (bigSep Finset.univ fun j : Fin 7 => Φ (sendI j)) ∗ (bigSep Finset.univ fun j : Fin 7 => Φ (recvI j))
    ∗ Φ wI ∗ bigSep Finset.univ fun h : Fin 2 => Φ (outI h))

omit [FloatOps F] in
theorem eachCell_eq (Φ : Fin 18 → sProp 𝕄) : bigSep Finset.univ Φ = eachCell Φ := by
  have hall : bigSep Finset.univ Φ = iprop(Φ barI ∗ Φ (sendI 0) ∗ Φ (sendI 1) ∗ Φ (sendI 2) ∗ Φ (sendI 3) ∗ Φ (sendI 4) ∗ Φ (sendI 5)
      ∗ Φ (sendI 6) ∗ Φ (recvI 0) ∗ Φ (recvI 1) ∗ Φ (recvI 2) ∗ Φ (recvI 3) ∗ Φ (recvI 4) ∗ Φ (recvI 5) ∗ Φ (recvI 6) ∗ Φ wI
      ∗ Φ (outI 0) ∗ Φ (outI 1)) :=
    bigSep_univ_eq_bigSepL [barI, sendI 0, sendI 1, sendI 2, sendI 3, sendI 4, sendI 5, sendI 6,
      recvI 0, recvI 1, recvI 2, recvI 3, recvI 4, recvI 5, recvI 6, wI, outI 0, outI 1] (by decide) (by decide) Φ
  rw [hall]
  unfold eachCell
  rw [bigSep_fin7, bigSep_fin7, bigSep_fin2]
  have both {A B : sProp 𝕄} (h1 : A ⊢ B) (h2 : B ⊢ A) : A = B := BI.Entails.antisymm h1 h2
  refine both ?_ ?_
  · iintro ⟨Hb, H0, H1, H2, H3, H4, H5, H6, R0, R1, R2, R3, R4, R5, R6, Hw, O0, O1⟩; iframe
  · iintro ⟨Hb, ⟨H0, H1, H2, H3, H4, H5, H6⟩, ⟨R0, R1, R2, R3, R4, R5, R6⟩, Hw, O0, O1⟩; iframe

/-- What a device starts with, besides the records: the right to make each of its payments, its place at each of its
    semaphores, and the credit for what will be paid to it. -/
def rights (c : Dev nD) : sProp 𝕄 :=
  iprop(eachCell (fun i => place c i)
    ∗ (bigSep Finset.univ fun j : Fin 7 => duty (ahead c j) barI j)
    ∗ (bigSep Finset.univ fun j : Fin 7 => duty (ahead c j) (recvI j) 0)
    ∗ (bigSep Finset.univ fun j : Fin 7 => duty c (sendI j) 0)
    ∗ duty c wI 0 ∗ (bigSep Finset.univ fun h : Fin 2 => duty c (outI h) 0))
def credits (c : Dev nD) : sProp 𝕄 :=
  iprop(cred (tallyAt (cell c barI) () 7) ∗ bigSep Finset.univ fun j : Fin 7 => cred (tallyAt (cell c (recvI j)) () (units (recvI j))))

/-- Its buffers before the run: the staged `x` in pieces, the communication buffer's slots, the two other
    local buffers, the weights and the result array. -/
def buffersPre (c : Dev nD) : sProp 𝕄 :=
  iprop(ownPts m ρ c ∗ (bigSep Finset.univ fun j : Fin 7 => blkPts m ρ c j)
    ∗ (bigSep Finset.univ fun j : Fin 7 => iprop(∃ f, slotPts c j.rev f))
    ∗ (∃ f, wPts c f) ∗ wSrc m c
    ∗ (bigSep Finset.univ fun h : Fin 2 => iprop(∃ f, halfPts c h f)) ∗ (bigSep Finset.univ fun h : Fin 2 => iprop(∃ f, outPts c h f)))
/-- And after it. -/
def buffersPost (c : Dev nD) : sProp 𝕄 :=
  iprop(ownPts m ρ c ∗ (bigSep Finset.univ fun j : Fin 7 => blkPts m ρ c j)
    ∗ (bigSep Finset.univ fun j : Fin 7 => slotPts c j (landed m ρ c))
    ∗ wPts c (wAt m c) ∗ wSrc m c
    ∗ (bigSep Finset.univ fun h : Fin 2 => halfPts c h (outAt m ρ c)) ∗ (bigSep Finset.univ fun h : Fin 2 => outPts c h (outAt m ρ c)))

theorem dev1_eq (c : Dev nD) : (⟨k0_dev1 c, k0_dev1_lt c⟩ : Dev nD) = ahead c 0 := Fin.ext (k0_dev1_eq c)
theorem dev2_eq (c : Dev nD) : (⟨k0_dev2 c, k0_dev2_lt c⟩ : Dev nD) = ahead c 1 := Fin.ext (k0_dev2_eq c)
theorem dev3_eq (c : Dev nD) : (⟨k0_dev3 c, k0_dev3_lt c⟩ : Dev nD) = ahead c 2 := Fin.ext (k0_dev3_eq c)
theorem dev4_eq (c : Dev nD) : (⟨k0_dev4 c, k0_dev4_lt c⟩ : Dev nD) = ahead c 3 := Fin.ext (k0_dev4_eq c)
theorem dev5_eq (c : Dev nD) : (⟨k0_dev5 c, k0_dev5_lt c⟩ : Dev nD) = ahead c 4 := Fin.ext (k0_dev5_eq c)
theorem dev6_eq (c : Dev nD) : (⟨k0_dev6 c, k0_dev6_lt c⟩ : Dev nD) = ahead c 5 := Fin.ext (k0_dev6_eq c)
theorem dev7_eq (c : Dev nD) : (⟨k0_dev7 c, k0_dev7_lt c⟩ : Dev nD) = ahead c 6 := Fin.ext (k0_dev7_eq c)
theorem dev8_eq (c : Dev nD) : (⟨k0_dev8 c, k0_dev8_lt c⟩ : Dev nD) = ahead c 1 := Fin.ext (k0_dev8_eq c)
theorem dev9_eq (c : Dev nD) : (⟨k0_dev9 c, k0_dev9_lt c⟩ : Dev nD) = ahead c 5 := Fin.ext (k0_dev9_eq c)
theorem dev10_eq (c : Dev nD) : (⟨k0_dev10 c, k0_dev10_lt c⟩ : Dev nD) = ahead c 2 := Fin.ext (k0_dev10_eq c)
theorem dev11_eq (c : Dev nD) : (⟨k0_dev11 c, k0_dev11_lt c⟩ : Dev nD) = ahead c 4 := Fin.ext (k0_dev11_eq c)
theorem dev12_eq (c : Dev nD) : (⟨k0_dev12 c, k0_dev12_lt c⟩ : Dev nD) = ahead c 0 := Fin.ext (k0_dev12_eq c)
theorem dev13_eq (c : Dev nD) : (⟨k0_dev13 c, k0_dev13_lt c⟩ : Dev nD) = ahead c 6 := Fin.ext (k0_dev13_eq c)
theorem dev14_eq (c : Dev nD) : (⟨k0_dev14 c, k0_dev14_lt c⟩ : Dev nD) = ahead c 3 := Fin.ext (k0_dev14_eq c)

/-- One product's operands: the wait for slot `j`, then the loads of the slot and of the rows of the weights for it. -/
theorem step_gather {α : Type} {Q : α → sProp 𝕄} (c : Dev nD) (j : Fin 7) {sm : DmaSem sig} (hs : SemLoc.dma sm = sem (recvI j))
    {k : ((slotR j).toLoadRect.shape.Idx → Elt F .bf16)
      → ((Rect.unit (s := S1024x1024) (k0_off4 c (BitVec.ofNat 32 (1 + j.val))) S128x1024.size (k0_off4_inb c j)).toLoadRect.shape.Idx → Elt F .bf16)
      → Prog (TpuEff nD τ sig (Elt F) Λ₀ .tc) α}
    {hsrc : (blkM c j).view.WordExact} {hdst : (slotM j).view.WordExact} {hl : rM.view.LoadsAt (slotR j).toLoadRect}
    {hl' : wM.view.LoadsAt (Rect.unit (s := S1024x1024) (k0_off4 c (BitVec.ofNat 32 (1 + j.val))) S128x1024.size (k0_off4_inb c j)).toLoadRect} :
    recs m ρ K ⊢ iprop(cred (tallyAt (cell c (recvI j)) () (units (recvI j))) -∗ place c (recvI j) -∗ debt c [] -∗ wPts c (wAt m c)
      -∗ (debt c [] -∗ semVal (cell c (recvI j)) 0 -∗ wPts c (wAt m c) -∗ slotPts c j (landed m ρ c)
        -∗ wp frame (wpE (defs₀ (F := F)) 𝒱₀ c none) Set.univ (k (xGot m ρ c j) (wGot m c j)) Q)
      -∗ wp frame (wpE (defs₀ (F := F)) 𝒱₀ c none) Set.univ
        (.op (.waitDma2 sm (blkM c j) (slotM j) hsrc hdst) fun _ => .op (.load rM (slotR j).toLoadRect hl) fun x =>
          .op (.load wM (Rect.unit (s := S1024x1024) (k0_off4 c (BitVec.ofNat 32 (1 + j.val))) S128x1024.size (k0_off4_inb c j)).toLoadRect hl') fun w => k x w) Q) := by
  iintro #HR Hc Hp HO HW Hk
  iapply (step_wait m ρ K c (recvI j) (fun h => by simpa using congrArg Fin.val h) hs (src := blkM c j) (dst := slotM j) (units_recv j).symm) $$ HR Hc Hp HO
  iintro HO Hz Hpay
  ihave Hs := (Entails.of_eq (pay_recv m ρ c j 0)) $$ Hpay
  iapply (load_slot m ρ c j) $$ Hs; iintro Hs
  iapply (load_weights c _ (wAt m c)) $$ HW; iintro HW
  iapply Hk $$ HO Hz HW Hs

/-- The wait for the send of slot `j` to have left gives back the rows sent. -/
theorem step_sent {α : Type} {Q : α → sProp 𝕄} {k : PUnit → Prog (TpuEff nD τ sig (Elt F) Λ₀ .tc) α}
    (c : Dev nD) (j : Fin 7) {sm : DmaSem sig} (hs : SemLoc.dma sm = sem (sendI j))
    {hsrc : (slotM j).view.WordExact} {hdst : (blkM c j).view.WordExact} :
    recs m ρ K ⊢ iprop(cred (tallyAt (cell c (sendI j)) () (units (sendI j))) -∗ place c (sendI j) -∗ debt c []
      -∗ (debt c [] -∗ semVal (cell c (sendI j)) 0 -∗ blkPts m ρ c j -∗ wp frame (wpE (defs₀ (F := F)) 𝒱₀ c none) Set.univ (k ⟨⟩) Q)
      -∗ wp frame (wpE (defs₀ (F := F)) 𝒱₀ c none) Set.univ (.op (.waitDma2 sm (slotM j) (blkM c j) hsrc hdst) k) Q) := by
  iintro #HR Hc Hp HO Hk
  iapply (step_wait m ρ K c (sendI j) (fun h => by simpa using congrArg Fin.val h) hs (src := slotM j) (dst := blkM c j) (units_send j).symm) $$ HR Hc Hp HO
  iintro HO Hz Hpay
  ihave Hs := (Entails.of_eq (pay_send m ρ c j 0)) $$ Hpay
  iapply Hk $$ HO Hz Hs

theorem half_units (h : Fin 2) : (halfH h).view.dmaCredit = units (outI h) := by fin_cases h <;> rfl

/-- The copy of half `h` of the result to the result array. -/
theorem step_emit {α : Type} {Q : α → sProp 𝕄} {k : PUnit → Prog (TpuEff nD τ sig (Elt F) Λ₀ .tc) α}
    (c : Dev nD) (h : Fin 2) {sm : SemLoc sig} (hs : sm = sem (outI h))
    {hsrc : (halfV h).view.WordExact} {hdst : (halfH h).view.WordExact}
    {hsem : DmaTarget.Typed .vmem sm (DmaTarget.here (nD := nD) (τ := τ) (p := .tc) (halfH h))} :
    recs m ρ K ⊢ iprop(duty c (outI h) 0 -∗ halfPts c h (outAt m ρ c) -∗ (∃ f, outPts c h f)
      -∗ (cred (tallyAt (cell c (outI h)) () (units (outI h))) -∗ wp frame (wpE (defs₀ (F := F)) 𝒱₀ c none) Set.univ (k ⟨⟩) Q)
      -∗ wp frame (wpE (defs₀ (F := F)) 𝒱₀ c none) Set.univ (.op (.enqueueDma (halfV h) (DmaTarget.here (nD := nD) (τ := τ) (p := .tc) (halfH h)) sm hsrc hdst hsem) k) Q) := by
  iintro #HR Ht Hs ⟨%f, Hd⟩ Hk
  unfold halfPts
  unfold outPts
  iapply (step_copy m ρ K c (outI h) hs (outAt m ρ c) f (half_units h) (by
    have := half_lands m ρ c h f
    unfold outPts at this
    rw [this, pay_out]
    exact BI.Entails.refl _)) $$ HR Ht Hs Hd
  iexact Hk

/-- The wait for that copy gives back the half and the filled half of the result array. -/
theorem step_emitted {α : Type} {Q : α → sProp 𝕄} {k : PUnit → Prog (TpuEff nD τ sig (Elt F) Λ₀ .tc) α}
    (c : Dev nD) (h : Fin 2) {sm : DmaSem sig} (hs : SemLoc.dma sm = sem (outI h))
    {hsrc : (halfV h).view.WordExact} {hdst : (halfH h).view.WordExact} :
    recs m ρ K ⊢ iprop(cred (tallyAt (cell c (outI h)) () (units (outI h))) -∗ place c (outI h) -∗ debt c []
      -∗ (debt c [] -∗ semVal (cell c (outI h)) 0 -∗ outPts c h (outAt m ρ c) -∗ halfPts c h (outAt m ρ c)
        -∗ wp frame (wpE (defs₀ (F := F)) 𝒱₀ c none) Set.univ (k ⟨⟩) Q)
      -∗ wp frame (wpE (defs₀ (F := F)) 𝒱₀ c none) Set.univ (.op (.waitDma2 sm (halfV h) (halfH h) hsrc hdst) k) Q) := by
  iintro #HR Hc Hp HO Hk
  iapply (step_wait m ρ K c (outI h) (fun h => by simpa using congrArg Fin.val h) hs (src := halfV h) (dst := halfH h) (half_units h)) $$ HR Hc Hp HO
  iintro HO Hz Hpay
  ihave Hs := (Entails.of_eq (pay_out m ρ c h 0)) $$ Hpay
  icases Hs with ⟨H1, H2⟩
  iapply Hk $$ HO Hz H1 H2

/-- The copy of the weights. -/
theorem step_weights {α : Type} {Q : α → sProp 𝕄} {k : PUnit → Prog (TpuEff nD τ sig (Elt F) Λ₀ .tc) α}
    (c : Dev nD) {sm : SemLoc sig} (hs : sm = sem wI) {hsrc : wH.view.WordExact} {hdst : wM.view.WordExact}
    {hsem : DmaTarget.Typed .hbm sm (DmaTarget.here (nD := nD) (τ := τ) (p := .tc) wM)} :
    recs m ρ K ⊢ iprop(duty c wI 0 -∗ wSrc m c -∗ (∃ f, wPts c f)
      -∗ (cred (tallyAt (cell c wI) () (units wI)) -∗ wp frame (wpE (defs₀ (F := F)) 𝒱₀ c none) Set.univ (k ⟨⟩) Q)
      -∗ wp frame (wpE (defs₀ (F := F)) 𝒱₀ c none) Set.univ (.op (.enqueueDma wH (DmaTarget.here (nD := nD) (τ := τ) (p := .tc) wM) sm hsrc hdst hsem) k) Q) := by
  iintro #HR Ht Hs ⟨%f, Hd⟩ Hk
  unfold wSrc
  unfold wPts
  iapply (step_copy m ρ K c wI hs (wAt m c) f rfl (by rw [weights_land, pay_w]; exact BI.Entails.refl _)) $$ HR Ht Hs Hd
  iexact Hk

/-- The wait for that copy. -/
theorem step_weighed {α : Type} {Q : α → sProp 𝕄} {k : PUnit → Prog (TpuEff nD τ sig (Elt F) Λ₀ .tc) α}
    (c : Dev nD) {sm : DmaSem sig} (hs : SemLoc.dma sm = sem wI) {hsrc : wH.view.WordExact} {hdst : wM.view.WordExact} :
    recs m ρ K ⊢ iprop(cred (tallyAt (cell c wI) () (units wI)) -∗ place c wI -∗ debt c []
      -∗ (debt c [] -∗ semVal (cell c wI) 0 -∗ wPts c (wAt m c) -∗ wSrc m c -∗ wp frame (wpE (defs₀ (F := F)) 𝒱₀ c none) Set.univ (k ⟨⟩) Q)
      -∗ wp frame (wpE (defs₀ (F := F)) 𝒱₀ c none) Set.univ (.op (.waitDma2 sm wH wM hsrc hdst) k) Q) := by
  iintro #HR Hc Hp HO Hk
  iapply (step_wait m ρ K c wI (by decide) hs (src := wH) (dst := wM) rfl) $$ HR Hc Hp HO
  iintro HO Hz Hpay
  ihave Hs := (Entails.of_eq (pay_w m ρ c 0)) $$ Hpay
  icases Hs with ⟨H1, H2⟩
  iapply Hk $$ HO Hz H1 H2

end Cert.Exchange

end
-- ==== Proof.Buffers.lean ====
/-
# Buffers: the kernel's whole buffers and the pieces it works with
-/
module

public import proofs.«01_k».proof.Proof.Body

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem blkPts_eq (c : Dev nD) (j : Fin 7) :
    (blkPts m ρ c j : sProp 𝕄) = (((c : Thread nD τ).loc cc0_stg0_0) ↦[(rowsR (ahead c j)).set]{fullShare} xAt m ρ c) := by
  unfold blkPts; rw [blkM_set c j]

/-- The staged `x` is the rows the device keeps and the seven blocks it sends. -/
theorem staged_eq (c : Dev nD) :
    ((((c : Thread nD τ).loc cc0_stg0_0) ↦{fullShare} xAt m ρ c) : sProp 𝕄)
      = iprop(ownPts m ρ c ∗ bigSep Finset.univ fun j : Fin 7 => blkPts m ρ c j) := by
  rw [Idealize.ShloMosaic.Ring.pointsTo_blocks (ℓ := (c : Thread nD τ).loc cc0_stg0_0) (fun b : Dev nD => (rowsR b).set) rows_disjoint rows_cover, ← image_ahead c,
    BI.bigSep_insert (by rw [Finset.mem_image]; rintro ⟨j, -, h⟩; exact ahead_ne c j h), bigSep_image_of_injOn (ahead_injective c).injOn]
  exact congrArg _ (bigSep_congr fun j _ => (blkPts_eq m ρ c j).symm)

omit [FloatOps F] in
theorem slotPts_eq (c : Dev nD) (j : Fin 7) (f : (cc0_scratch0 : Ref sig .tc).ty.Contents (Elt F)) :
    (slotPts c j f : sProp 𝕄) = (((c : Thread nD τ).loc cc0_scratch0) ↦[(slotR j).set]{fullShare} f) := by
  unfold slotPts; rw [slotM_set j]

omit [FloatOps F] in
/-- The communication buffer is its seven slots. -/
theorem slots_eq (c : Dev nD) (f : (cc0_scratch0 : Ref sig .tc).ty.Contents (Elt F)) :
    ((((c : Thread nD τ).loc cc0_scratch0) ↦{fullShare} f) : sProp 𝕄) = bigSep Finset.univ fun j : Fin 7 => slotPts c j f := by
  rw [Idealize.ShloMosaic.Ring.pointsTo_blocks (ℓ := (c : Thread nD τ).loc cc0_scratch0) (fun j : Fin 7 => (slotR j).set) slot_disjoint slot_cover]
  exact bigSep_congr fun j _ => (slotPts_eq c j f).symm

omit [FloatOps F] in
/-- The slots, each at some contents, counted from the last. -/
theorem slots_open (c : Dev nD) (f : (cc0_scratch0 : Ref sig .tc).ty.Contents (Elt F)) :
    ((((c : Thread nD τ).loc cc0_scratch0) ↦{fullShare} f) : sProp 𝕄) ⊢ bigSep Finset.univ fun j : Fin 7 => iprop(∃ f, slotPts c j.rev f) := by
  rw [slots_eq, bigSep_univ_equiv Fin.revPerm]
  exact bigSep_mono fun j _ => BIClass.exists_intro (Φ := fun f => slotPts c j.rev f) f

omit [FloatOps F] in
theorem halfPts_eq (c : Dev nD) (h : Fin 2) (f : (cc0_scratch2 : Ref sig .tc).ty.Contents (Elt F)) :
    (halfPts c h f : sProp 𝕄) = (((c : Thread nD τ).loc cc0_scratch2) ↦[(halfR h).set]{fullShare} f) := by
  unfold halfPts; rw [halfV_set h]

omit [FloatOps F] in
/-- The local copy of the result is its two halves, -/
theorem halves_eq (c : Dev nD) (f : (cc0_scratch2 : Ref sig .tc).ty.Contents (Elt F)) :
    ((((c : Thread nD τ).loc cc0_scratch2) ↦{fullShare} f) : sProp 𝕄) = bigSep Finset.univ fun h : Fin 2 => halfPts c h f := by
  rw [Idealize.ShloMosaic.Ring.pointsTo_blocks (ℓ := (c : Thread nD τ).loc cc0_scratch2) (fun h : Fin 2 => (halfR h).set) half_disjoint half_cover]
  exact bigSep_congr fun h _ => (halfPts_eq c h f).symm
omit [FloatOps F] in
theorem outPts_eq (c : Dev nD) (h : Fin 2) (f : (cc0_scratch2 : Ref sig .tc).ty.Contents (Elt F)) :
    (outPts c h f : sProp 𝕄) = (((c : Thread nD τ).loc main_v1) ↦[(halfR h).set]{fullShare} f) := by
  unfold outPts; rw [halfH_set h]

omit [FloatOps F] in
/-- and so is the result. -/
theorem outs_eq (c : Dev nD) (f : (cc0_scratch2 : Ref sig .tc).ty.Contents (Elt F)) :
    ((((c : Thread nD τ).loc main_v1) ↦{fullShare} f) : sProp 𝕄) = bigSep Finset.univ fun h : Fin 2 => outPts c h f := by
  rw [Idealize.ShloMosaic.Ring.pointsTo_blocks (ℓ := (c : Thread nD τ).loc main_v1) (fun h : Fin 2 => (halfR h).set) half_disjoint half_cover]
  exact bigSep_congr fun h _ => (outPts_eq c h f).symm

omit [FloatOps F] in
theorem halves_open (c : Dev nD) (f : (cc0_scratch2 : Ref sig .tc).ty.Contents (Elt F)) :
    ((((c : Thread nD τ).loc cc0_scratch2) ↦{fullShare} f) : sProp 𝕄) ⊢ bigSep Finset.univ fun h : Fin 2 => iprop(∃ f, halfPts c h f) := by
  rw [halves_eq]
  exact bigSep_mono fun h _ => BIClass.exists_intro (Φ := fun f => halfPts c h f) f
omit [FloatOps F] in
theorem outs_open (c : Dev nD) (f : (cc0_scratch2 : Ref sig .tc).ty.Contents (Elt F)) :
    ((((c : Thread nD τ).loc main_v1) ↦{fullShare} f) : sProp 𝕄) ⊢ bigSep Finset.univ fun h : Fin 2 => iprop(∃ f, outPts c h f) := by
  rw [outs_eq]
  exact bigSep_mono fun h _ => BIClass.exists_intro (Φ := fun f => outPts c h f) f

omit [FloatOps F] in
theorem local_eq (c : Dev nD) (f : (cc0_scratch1 : Ref sig .tc).ty.Contents (Elt F)) :
    (wPts c f : sProp 𝕄) = (((c : Thread nD τ).loc cc0_scratch1) ↦{fullShare} f) := by
  unfold wPts; simp only [Memref.view_whole, View.set_whole]
omit [FloatOps F] in
theorem weights_eq (c : Dev nD) : (wSrc m c : sProp 𝕄) = (((c : Thread nD τ).loc main_arg1) ↦{fullShare} wAt m c) := by
  unfold wSrc; simp only [Memref.view_whole, View.set_whole]

/-- The buffers of device `c` outside the staged `x`: before the kernel, the local ones at any contents and the two
    arrays as launched; -/
def restPre (c : Dev nD) : sProp 𝕄 :=
  iprop((((c : Thread nD τ).loc main_arg1) ↦{fullShare} wAt m c)
    ∗ (∃ f : Buf (Elt F) ((c : Thread nD τ).loc main_v1), ((c : Thread nD τ).loc main_v1) ↦{fullShare} f) ∗ Pipeline.scopedRest cfg0.spec c)
/-- after it, the weights unchanged and the result computed. -/
def restPost (c : Dev nD) : sProp 𝕄 :=
  iprop((((c : Thread nD τ).loc main_arg1) ↦{fullShare} wAt m c)
    ∗ ((((c : Thread nD τ).loc main_v1) ↦{fullShare} outAt m ρ c)) ∗ Pipeline.scopedRest cfg0.spec c)

theorem buffers_open (c : Dev nD) :
    iprop((((c : Thread nD τ).loc cc0_stg0_0) ↦{fullShare} xAt m ρ c) ∗ restPre m c) ⊢ buffersPre m ρ c := by
  unfold restPre buffersPre
  rw [staged_eq, scopedRest0_eq, weights_eq]
  iintro ⟨⟨Hx, Hb⟩, Hw, ⟨%fo, Ho⟩, ⟨%f0, H0⟩, ⟨%f1, H1⟩, ⟨%f2, H2⟩⟩
  isplitl [Hx]; · iexact Hx
  isplitl [Hb]; · iexact Hb
  isplitl [H0]; · iapply (slots_open c f0); iexact H0
  isplitl [H1]; · iexists f1; iapply (Entails.of_eq (local_eq c f1).symm); iexact H1
  isplitl [Hw]; · iexact Hw
  isplitl [H2]; · iapply (halves_open c f2); iexact H2
  iapply (outs_open c fo); iexact Ho

theorem buffers_close (c : Dev nD) :
    buffersPost m ρ c ⊢ iprop((((c : Thread nD τ).loc cc0_stg0_0) ↦{fullShare} xAt m ρ c) ∗ restPost m ρ c) := by
  unfold restPost buffersPost
  rw [staged_eq, scopedRest0_eq, weights_eq, local_eq]
  iintro ⟨Hx, Hb, H0, H1, Hw, H2, Ho⟩
  isplitl [Hx Hb]
  · isplitl [Hx] <;> iassumption
  isplitl [Hw]; · iexact Hw
  isplitl [Ho]; · iapply (Entails.of_eq (outs_eq c (outAt m ρ c)).symm); iexact Ho
  isplitl [H0]; · iexists (landed m ρ c); iapply (Entails.of_eq (slots_eq c (landed m ρ c)).symm); iexact H0
  isplitl [H1]; · iexists (wAt m c); iexact H1
  iexists (outAt m ρ c); iapply (Entails.of_eq (halves_eq c (outAt m ρ c)).symm); iexact H2

end Cert.Exchange

end
-- ==== Proof.Tokens.lean ====
/-
# Tokens: the rights and credits each device starts with, dealt out at launch

At launch every device's semaphores get their invariants, and the right to make each payment goes to the device that
makes it. The units owed to a semaphore, summed over the devices, are the credit its owner waits with.
-/
module

public import proofs.«01_k».proof.Proof.Body

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: all but the barrier. -/
abbrev osem : Fin 17 → SemLoc sig := fun k => sem k.succ
theorem ownSemFacts : Pipeline.OwnSemFacts cfg0.spec osem := by decide

omit [FloatOps F] in
theorem bigSep_fin18 (Φ : Fin 18 → sProp 𝕄) : bigSep Finset.univ Φ = iprop(Φ barI ∗ bigSep Finset.univ fun k : Fin 17 => Φ k.succ) := by
  rw [Fin.univ_succ, Finset.cons_eq_insert, BI.bigSep_insert (by simp), bigSep_map]
  rfl

theorem cell_injective : Function.Injective fun ci : Dev nD × Fin 18 => cell ci.1 ci.2 := by
  rintro ⟨c, i⟩ ⟨c', i'⟩ h
  exact Prod.ext (congrArg (fun g : GSem nD τ sig => g.1.1) h) (sem_injective (congrArg Prod.snd h))

/-- The semaphores of the exchange on all devices, and a token for every semaphore and every number of a payment. -/
def exCells : Finset (GSem nD τ sig) := Finset.univ.map ⟨fun ci : Dev nD × Fin 18 => cell ci.1 ci.2, cell_injective⟩
abbrev tokOf (x : (Dev nD × Fin 18) × Fin 7) : GSem nD τ sig × ℕ × Fin 7 := (cell x.1.1 x.1.2, 0, x.2)
theorem tokOf_injective : Function.Injective tokOf := by
  rintro ⟨ci, d⟩ ⟨ci', d'⟩ h
  exact Prod.ext (cell_injective (congrArg Prod.fst h)) (congrArg (fun x : GSem nD τ sig × ℕ × Fin 7 => x.2.2) h)
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- All tokens of device `c`'s semaphores. -/
def toks (c : Dev nD) : sProp 𝕄 := bigSep Finset.univ fun i : Fin 18 => bigSep Finset.univ fun d : Fin 7 => duty c i d

/-- What the launch deals to device `c`: for each of its semaphores the state, its place there and the tokens. -/
def G (c : Dev nD) : sProp 𝕄 :=
  iprop((bigSep Finset.univ fun i : Fin 18 => roundState ER (rounds m ρ) (cell c i) 0)
    ∗ (bigSep Finset.univ fun i : Fin 18 => place c i) ∗ (bigSep Finset.univ fun i : Fin 18 => reached ER (cell c i) 0) ∗ toks c)

/-- What device `c` has once the invariants are made and the tokens have gone to the devices that pay. -/
def G' (c : Dev nD) : sProp 𝕄 := iprop(∃ K, recs m ρ K ∗ rights c)

theorem fund_exchange : BI.own (ER (initOf exCells exToks)) ⊢ (|==> bigSep Finset.univ (G m ρ) : sProp 𝕄) := by
  have hX (Φ : GSem nD τ sig → sProp 𝕄) :
      bigSep exCells Φ = bigSep Finset.univ fun c : Dev nD => bigSep Finset.univ fun i : Fin 18 => Φ (cell c i) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod, bigSep_univ_prod]; rfl
  iintro HX
  imod (Rounds.fund ER (rounds m ρ) exCells exToks) $$ HX with ⟨Hst, Hr, Hat, Htok⟩
  imodintro
  ihave Hst' := (Entails.of_eq (hX fun g => roundState ER (rounds m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem unscopedSems0_eq (c : Dev nD) : (unscopedSems0 c : sProp 𝕄) = semVal (cell c barI) 0 := by
  unfold unscopedSems0; rw [bigSep_eq_bigSepL_of_eq [SemLoc.reg barS] (by decide) (by decide)]; rfl

omit [FloatOps F] in
/-- The barrier and the kernel's own semaphores are the eighteen. -/
theorem sems0_eq (c : Dev nD) :
    (bigSep Finset.univ fun i : Fin 18 => semVal (cell c i) 0 : sProp 𝕄)
      = iprop(unscopedSems0 c ∗ Pipeline.ownSems0 (Ix := Unit) (Name := ℕ) (U := UU) (Lvl := ℕ) (Val := Elt F) (τ := τ) osem c) := by
  rw [bigSep_fin18, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 18 => iprop(∃ κ : ℕ, cellInv ER (rounds m ρ) κ (cell c i)))
          ∗ (bigSep Finset.univ fun i : Fin 18 => place c i) ∗ (bigSep Finset.univ fun i : Fin 18 => reached ER (cell c i) 0) ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun i : Fin 18 => semVal (cell c i) 0) ∗ bigSep Finset.univ fun i : Fin 18 => roundState ER (rounds m ρ) (cell c i) 0)
      ⊢ (|={Set.univ}=> bigSep Finset.univ fun i => iprop(∃ κ : ℕ, cellInv ER (rounds m ρ) κ (cell c i)) : sProp 𝕄) from by
        rw [← bigSep_sep']
        exact (bigSep_mono fun i _ => (Rounds.body_intro ER (rounds m ρ) (cell c i)).trans inv_alloc).trans (bigSep_fupd _ _)) $$ [Hv Hst] with Hinv
  · isplitl [Hv] <;> iassumption
  imodintro
  isplitl [Hinv]; · iexact Hinv
  iexact Hrest

/-! ## The tokens go to the devices that pay -/

/-- The tokens of payments that are made, still with the devices paid to; and with the devices that pay. -/
def dealt (c : Dev nD) : sProp 𝕄 :=
  iprop((bigSep Finset.univ fun j : Fin 7 => duty c barI j) ∗ (bigSep Finset.univ fun j : Fin 7 => duty c (recvI j) 0)
    ∗ (bigSep Finset.univ fun j : Fin 7 => duty c (sendI j) 0)
    ∗ duty c wI 0 ∗ (bigSep Finset.univ fun h : Fin 2 => duty c (outI h) 0))
def handed (c : Dev nD) : sProp 𝕄 :=
  iprop((bigSep Finset.univ fun j : Fin 7 => duty (ahead c j) barI j) ∗ (bigSep Finset.univ fun j : Fin 7 => duty (ahead c j) (recvI j) 0)
    ∗ (bigSep Finset.univ fun j : Fin 7 => duty c (sendI j) 0)
    ∗ duty c wI 0 ∗ (bigSep Finset.univ fun h : Fin 2 => duty c (outI h) 0))

omit [FloatOps F] in
/-- Of the tokens of each of several semaphores, keep the first. -/
theorem toks_first {n : ℕ} (c : Dev nD) (f : Fin n → Fin 18) :
    (bigSep Finset.univ fun j : Fin n => bigSep Finset.univ fun d : Fin 7 => duty c (f j) d : sProp 𝕄) ⊢ bigSep Finset.univ fun j : Fin n => duty c (f j) 0 :=
  bigSep_mono fun _ _ => bigSep_elim (Finset.mem_univ 0)
omit [FloatOps F] in
theorem toks_dealt (c : Dev nD) : (toks c : sProp 𝕄) ⊢ dealt c := by
  have h0 (i : Fin 18) : (bigSep Finset.univ fun d : Fin 7 => duty c i d : sProp 𝕄) ⊢ duty c i 0 := bigSep_elim (Finset.mem_univ 0)
  unfold toks dealt
  rw [eachCell_eq]
  unfold eachCell
  iintro ⟨Hb, Hs, Hr, Hw, Ho⟩
  isplitl [Hb]; · iexact Hb
  isplitl [Hr]; · iapply (toks_first c recvI); iexact Hr
  isplitl [Hs]; · iapply (toks_first c sendI); iexact Hs
  isplitl [Hw]; · iapply (h0 wI); iexact Hw
  iapply (toks_first c outI); iexact Ho

omit [FloatOps F] in
/-- A family of resources indexed by device and distance, moved by the distance. -/
theorem around (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (ahead c j) j := by
  rw [BI.bigSep_univ_comm, BI.bigSep_univ_comm (fun (c : Dev nD) (j : Fin 7) => Φ (ahead c j) j)]
  exact bigSep_congr fun j _ => bigSep_univ_equiv (shift j) fun c => Φ c j

omit [FloatOps F] in
theorem dealt_handed : (bigSep Finset.univ fun c : Dev nD => (dealt c : sProp 𝕄)) = bigSep Finset.univ fun c : Dev nD => handed c := by
  unfold dealt handed
  rw [bigSep_sep', bigSep_sep', around (fun c j => duty c barI j), around (fun c j => duty c (recvI j) 0), ← bigSep_sep', ← bigSep_sep']

/-- A device's places and the tokens it pays with are its rights. -/
theorem rights_intro (K : Dev nD × Fin 18 → ℕ) (c : Dev nD) :
    iprop(recs m ρ K ∗ (bigSep Finset.univ fun i : Fin 18 => place c i) ∗ handed c) ⊢ G' m ρ c := by
  unfold G' rights handed
  rw [eachCell_eq]
  iintro ⟨HR, Hp, Hh⟩
  iexists K
  isplitl [HR]; · iexact HR
  isplitl [Hp] <;> iassumption

omit [FloatOps F] in
theorem bigSep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 18 => iprop(∃ κ : ℕ, cellInv ER (rounds m ρ) κ (cell c i)))
          ∗ (bigSep Finset.univ fun i : Fin 18 => place c i) ∗ (bigSep Finset.univ fun i : Fin 18 => reached ER (cell c i) 0) ∗ toks c) : sProp 𝕄)
      ⊢ bigSep Finset.univ (G' m ρ) := by
  rw [bigSep_sep', bigSep_sep', bigSep_sep', ← bigSep_univ_prod (fun ci : Dev nD × Fin 18 => iprop(∃ κ : ℕ, cellInv ER (rounds m ρ) κ (cell ci.1 ci.2))),
    ← bigSep_univ_prod (fun ci : Dev nD × Fin 18 => (reached ER (cell ci.1 ci.2) 0 : sProp 𝕄))]
  iintro ⟨HI, Hat, #HR, Htok⟩
  ihave HK := (BI.bigSep_exists_pi Finset.univ (fun (ci : Dev nD × Fin 18) (κ : ℕ) => (cellInv ER (rounds m ρ) κ (cell ci.1 ci.2) : sProp 𝕄))) $$ HI
  icases HK with ⟨%K, #HI⟩
  ihave Hd := (show bigSep Finset.univ (fun c : Dev nD => (toks c : sProp 𝕄)) ⊢ bigSep Finset.univ (fun c : Dev nD => dealt c) from bigSep_mono fun c _ => toks_dealt c) $$ Htok
  ihave Hh := (Entails.of_eq (dealt_handed (F := F))) $$ Hd
  iapply (bigSep_persistent (R := recs m ρ K) fun c _ => rights_intro m ρ K c)
  isplitr
  · unfold recs; isplitl; · iexact HI
    iexact HR
  · iapply (Entails.of_eq (bigSep_sep' Finset.univ (fun c : Dev nD => (bigSep Finset.univ fun i : Fin 18 => place c i : sProp 𝕄)) handed).symm)
    isplitl [Hat]; · iexact Hat
    iexact Hh

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What all devices owe semaphore `i` of `c` by paying `n` each to semaphore `i'` of the device `j + 1` places on. -/
theorem sum_ahead (c : Dev nD) (i i' : Fin 18) (j : Fin 7) (n : ℕ) :
    ∑ d : Dev nD, (tallyAt (cell (ahead d j) i') () n : CellTallies nD τ sig Unit) (cell c i) () = if i = i' then n else 0 := by
  refine (Equiv.sum_comp (shift j) fun d : Dev nD => (tallyAt (cell d i') () n : CellTallies nD τ sig Unit) (cell c i) ()).trans ?_
  rw [Finset.sum_eq_single c]
  · rw [tallyAt_apply]
    by_cases h : i = i'
    · subst h; rw [if_pos ⟨rfl, rfl⟩, if_pos rfl]
    · rw [if_neg fun h' => h (sem_injective (congrArg Prod.snd h'.1)), if_neg h]
  · intro d _ hd
    rw [tallyAt_apply]
    exact if_neg fun h' => hd (congrArg (fun g : GSem nD τ sig => g.1.1) h'.1).symm
  · intro h; exact absurd (Finset.mem_univ c) h

theorem owed_cell (c : Dev nD) (i : Fin 18) :
    ∑ d : Dev nD, O₀ d (cell c i) () = (∑ j : Fin 7, if i = barI then 1 else 0) + ∑ j : Fin 7, if i = recvI j then blkN else 0 := by
  rw [← Finset.sum_congr rfl fun (j : Fin 7) _ => sum_ahead c i barI j 1, ← Finset.sum_congr rfl fun (j : Fin 7) _ => sum_ahead c i (recvI j) j blkN,
    Finset.sum_comm, Finset.sum_comm (s := (Finset.univ : Finset (Fin 7))), ← Finset.sum_add_distrib]
  refine Finset.sum_congr rfl fun d _ => ?_
  rw [O₀_eq, Pi.add_apply, Finsupp.add_apply, Finset.sum_apply, Finset.sum_apply, Finsupp.finset_sum_apply, Finsupp.finset_sum_apply]

/-- The launch credit of semaphore `i` of `c`. -/
theorem launch_cell (c : Dev nD) (i : Fin 18) (n : ℕ) (h : ∑ d : Dev nD, O₀ d (cell c i) () = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (cell c barI) () = 7 := by
  rw [owed_cell, Finset.sum_congr rfl fun (j : Fin 7) _ => if_pos rfl,
    Finset.sum_congr rfl fun (j : Fin 7) _ => if_neg (show ¬ barI = recvI j by revert j; decide)]
  simp
theorem owed_recv (c : Dev nD) (j : Fin 7) : ∑ d : Dev nD, O₀ d (cell c (recvI j)) () = units (recvI j) := by
  rw [owed_cell, Finset.sum_congr rfl fun (_ : Fin 7) _ => if_neg (show ¬ recvI j = barI by revert j; decide), units_recv, Finset.sum_const_zero, Nat.zero_add,
    Finset.sum_eq_single j (fun j' _ h => if_neg fun h' => h (Fin.ext (by have := congrArg Fin.val h'; simp at this; omega))) (fun h => absurd (Finset.mem_univ j) h), if_pos rfl]

omit [FloatOps F] in
theorem creds (c : Dev nD) : (Pipeline.launchCred O₀ c : sProp 𝕄) ⊢ credits c := by
  have h : (Pipeline.launchCred O₀ c : sProp 𝕄)
      ⊢ bigSep Finset.univ fun i : Fin 18 => cred (tallyOn (cell c i) (launchCredit (Pipeline.owing O₀) 0 (cell c i))) := by
    unfold Pipeline.launchCred
    rw [← bigSep_image_of_injOn (f := sem) sem_injective.injOn
      (fun sm : SemLoc sig => (cred (tallyOn ((c.tc : Thread nD τ), sm) (launchCredit (Pipeline.owing O₀) 0 ((c.tc : Thread nD τ), sm))) : sProp 𝕄))]
    exact bigSep_subset (Finset.subset_univ _)
  have hr (j : Fin 7) := launch_cell c (recvI j) _ (owed_recv c j)
  refine h.trans ?_
  rw [eachCell_eq]
  unfold eachCell credits
  beta_reduce
  rw [launch_cell c barI 7 (owed_bar c), bigSep_congr (s := Finset.univ) fun (j : Fin 7) _ => congrArg cred (hr j)]
  iintro ⟨Hb, -, Hr, -, -⟩
  isplitl [Hb] <;> iassumption

end Cert.Exchange

end
-- ==== Proof.Sound.lean ====
/-
# Sound: the kernel's run on one device
-/

module

public import proofs.«01_k».proof.Proof.Body

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 18 → ℕ)

/-- What a device ends with: nothing owed, every semaphore at zero, its buffers. -/
def bodyEnd (c : Dev nD) : sProp 𝕄 :=
  iprop(debt c [] ∗ eachCell (fun i => semVal (cell c i) 0) ∗ buffersPost m ρ c)

set_option maxHeartbeats 4000000 in
set_option maxRecDepth 4000 in
/-- The kernel, run effect by effect in its own order. -/
theorem sound_body (c : Dev nD) (Kt : PUnit → sProp 𝕄) :
    recs m ρ K ⊢ iprop(levAts L lv -∗ debt c (allOwed c) -∗ rights c -∗ credits c -∗ buffersPre m ρ c
      -∗ (bodyEnd m ρ c -∗ Kt ⟨⟩)
      -∗ wp frame (wpE (defs₀ (F := F)) 𝒱₀ c none) Set.univ
          (cc0_body (Memref.whole cc0_stg0_0) (Memref.isWhole_whole _) (Memref.whole main_arg1) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) Kt) := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [semSignalWord, semWaitWord, Prog.lift, Prog.bind_op, Prog.bind_ret, Prog.pure_eq_ret, wp_deviceId]
  unfold rights credits buffersPre bodyEnd buffersPost eachCell
  simp only [bigSep_fin7, bigSep_fin2]
  iintro #HR #Hlev HO ⟨⟨Pb, ⟨PS0, PS1, PS2, PS3, PS4, PS5, PS6⟩, ⟨PR0, PR1, PR2, PR3, PR4, PR5, PR6⟩, Pw, ⟨PO0, PO1⟩⟩, ⟨D0, D1, D2, D3, D4, D5, D6⟩, ⟨A0, A1, A2, A3, A4, A5, A6⟩, ⟨B0, B1, B2, B3, B4, B5, B6⟩, Bw, ⟨Bo0, Bo1⟩⟩ ⟨Cb, ⟨CR0, CR1, CR2, CR3, CR4, CR5, CR6⟩⟩
    ⟨Hx, ⟨X0, X1, X2, X3, X4, X5, X6⟩, ⟨S0, S1, S2, S3, S4, S5, S6⟩, HW, Hws, ⟨⟨%h0, Hh0⟩, ⟨%h1, Hh1⟩⟩, ⟨Ho0, Ho1⟩⟩ Hk
  iapply (step_signal m ρ K c _ 0 (dev1_eq c) _) $$ HR HO D0 S0; iintro HO
  iapply (step_signal m ρ K c _ 1 (dev2_eq c) _) $$ HR HO D1 S1; iintro HO
  iapply (step_signal m ρ K c _ 2 (dev3_eq c) _) $$ HR HO D2 S2; iintro HO
  iapply (step_signal m ρ K c _ 3 (dev4_eq c) _) $$ HR HO D3 S3; iintro HO
  iapply (step_signal m ρ K c _ 4 (dev5_eq c) _) $$ HR HO D4 S4; iintro HO
  iapply (step_signal m ρ K c _ 5 (dev6_eq c) _) $$ HR HO D5 S5; iintro HO
  iapply (step_signal m ρ K c _ 6 (dev7_eq c) _) $$ HR HO D6 S6; iintro HO
  iapply (step_weights m ρ K c rfl) $$ HR Bw Hws HW; iintro Cw
  iapply (step_barrier m ρ K c) $$ HR Hlev Cb Pb HO; iintro HO Zb Hslots
  ihave Ht := (Entails.of_eq (bigSep_fin7 fun j => iprop(∃ f, slotPts (ahead c j) j f))) $$ Hslots
  icases Ht with ⟨T0, T1, T2, T3, T4, T5, T6⟩
  iapply (step_send m ρ K c _ 1 (dev8_eq c) _) $$ HR HO B1 A1 X1 T1; iintro HO CS1
  iapply (step_send m ρ K c _ 5 (dev9_eq c) _) $$ HR HO B5 A5 X5 T5; iintro HO CS5
  iapply (step_send m ρ K c _ 2 (dev10_eq c) _) $$ HR HO B2 A2 X2 T2; iintro HO CS2
  iapply (step_send m ρ K c _ 4 (dev11_eq c) _) $$ HR HO B4 A4 X4 T4; iintro HO CS4
  iapply (step_send m ρ K c _ 0 (dev12_eq c) _) $$ HR HO B0 A0 X0 T0; iintro HO CS0
  iapply (step_send m ρ K c _ 6 (dev13_eq c) _) $$ HR HO B6 A6 X6 T6; iintro HO CS6
  iapply (step_send m ρ K c _ 3 (dev14_eq c) _) $$ HR HO B3 A3 X3 T3; iintro HO CS3
  iapply (step_weighed m ρ K c rfl) $$ HR Cw Pw HO; iintro HO Zw HW Hws
  iapply (load_own m ρ c) $$ Hx; iintro Hx
  iapply (load_weights c _ (wAt m c)) $$ HW; iintro HW
  iapply (step_gather m ρ K c 3 rfl) $$ HR CR3 PR3 HO HW; iintro HO ZR3 HW S3
  iapply (step_gather m ρ K c 0 rfl) $$ HR CR0 PR0 HO HW; iintro HO ZR0 HW S0
  iapply (step_gather m ρ K c 6 rfl) $$ HR CR6 PR6 HO HW; iintro HO ZR6 HW S6
  iapply (step_gather m ρ K c 2 rfl) $$ HR CR2 PR2 HO HW; iintro HO ZR2 HW S2
  iapply (step_gather m ρ K c 4 rfl) $$ HR CR4 PR4 HO HW; iintro HO ZR4 HW S4
  iapply (step_gather m ρ K c 1 rfl) $$ HR CR1 PR1 HO HW; iintro HO ZR1 HW S1
  iapply (step_gather m ρ K c 5 rfl) $$ HR CR5 PR5 HO HW; iintro HO ZR5 HW S5
  iapply (load_half c 0 h0) $$ Hh0; iintro Hh0
  iapply (store_half m ρ c 0 h0 _ (left_value m ρ c)) $$ Hh0; iintro Hh0
  iapply (step_emit m ρ K c 0 rfl) $$ HR Bo0 Hh0 Ho0; iintro Co0
  iapply (load_half c 1 h1) $$ Hh1; iintro Hh1
  iapply (store_half m ρ c 1 h1 _ (right_value m ρ c)) $$ Hh1; iintro Hh1
  iapply (step_emit m ρ K c 1 rfl) $$ HR Bo1 Hh1 Ho1; iintro Co1
  iapply (step_sent m ρ K c 1 rfl) $$ HR CS1 PS1 HO; iintro HO ZS1 X1
  iapply (step_sent m ρ K c 5 rfl) $$ HR CS5 PS5 HO; iintro HO ZS5 X5
  iapply (step_sent m ρ K c 2 rfl) $$ HR CS2 PS2 HO; iintro HO ZS2 X2
  iapply (step_sent m ρ K c 4 rfl) $$ HR CS4 PS4 HO; iintro HO ZS4 X4
  iapply (step_sent m ρ K c 0 rfl) $$ HR CS0 PS0 HO; iintro HO ZS0 X0
  iapply (step_sent m ρ K c 6 rfl) $$ HR CS6 PS6 HO; iintro HO ZS6 X6
  iapply (step_sent m ρ K c 3 rfl) $$ HR CS3 PS3 HO; iintro HO ZS3 X3
  iapply (step_emitted m ρ K c 0 rfl) $$ HR Co0 PO0 HO; iintro HO ZO0 Ho0 Hh0
  iapply (step_emitted m ρ K c 1 rfl) $$ HR Co1 PO1 HO; iintro HO ZO1 Ho1 Hh1
  rw [wp_ret]; imodintro
  iapply Hk
  iframe

end Cert.Exchange

end
-- ==== Proof.Run.lean ====
/-
# Run: the whole program, on all eight devices

From any memory with every semaphore counter at zero, every fair execution of the program ends, each device's result
array holds `outAt`, its two arguments are unchanged and every counter is zero again.
-/
module

public import proofs.«01_k».proof.Proof.Buffers
public import proofs.«01_k».proof.Proof.Tokens
public import proofs.«01_k».proof.Proof.Sound
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What device `c` starts the kernel with, beside its local buffers. -/
def start (c : Dev nD) : sProp 𝕄 :=
  iprop(G' m ρ c ∗ credits c ∗ levAts L lv ∗ (((c : Thread nD τ).loc main_arg1) ↦{fullShare} wAt m c)
    ∗ ∃ f : Buf (Elt F) ((c : Thread nD τ).loc main_v1), ((c : Thread nD τ).loc main_v1) ↦{fullShare} f)
def before (c : Dev nD) : sProp 𝕄 := iprop(start m ρ c ∗ Pipeline.scopedRest cfg0.spec c)
/-- What it ends the kernel with: every semaphore at zero and its buffers. -/
def after (c : Dev nD) : sProp 𝕄 := iprop((bigSep Finset.univ fun i : Fin 18 => semVal (cell c i) 0) ∗ restPost m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
  Φ t := match t with
    | ⟨0, _⟩ => before m ρ c
    | ⟨_ + 1, _⟩ => after m ρ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged block of `x`, held at contents equal to `X`. -/
abbrev stagedAt (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(before m ρ c ∗ (dats m ρ 0 c).owesAt () t0_0.castSucc ∗ ∃ d, stagedAt c ((dats m ρ 0 c).before (0 : Fin 1) t0_0 d))
def bodyPost (c : Dev nD) : sProp 𝕄 :=
  iprop(after m ρ c ∗ (dats m ρ 0 c).owesAt () t0_0.succ ∗ stagedAt c (xAt m ρ c))

theorem end_post (c : Dev nD) : bodyEnd m ρ c ⊢ bodyPost m ρ c := by
  unfold bodyEnd bodyPost after debt Dat.owesAt Pipeline.owesWithin
  rw [show (dats m ρ 0 c).owed t0_0.succ = 0 from rfl, eachCell_eq]
  iintro ⟨⟨%W, HO⟩, Hz, Hb⟩
  ihave Hb' := (buffers_close m ρ c) $$ Hb
  icases Hb' with ⟨Hx, Hr⟩
  isplitl [Hz Hr]
  · isplitl [Hz] <;> iassumption
  isplitl [HO]
  · iexists W
    isplitr; · ipureintro; exact fun _ _ => Or.inl trivial
    iexact HO
  iexists _; isplitr; · (ipureintro; rfl)
  iexact Hx

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ
    (cc0_body (Memref.whole cc0_stg0_0) (Memref.isWhole_whole _) (Memref.whole main_arg1) (Memref.isWhole_whole _)
      (Memref.whole main_v1) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6) (fun _ => bodyPost m ρ c)
  unfold bodyPre before start G' Dat.owesAt Pipeline.owesWithin
  rw [show (dats m ρ 0 c).owed t0_0.castSucc = O₀ c from rfl]
  iintro ⟨⟨⟨⟨%K, #HR, Hri⟩, Hcr, #Hlev, Hw, Ho⟩, Hsc⟩, ⟨%W, %hW, HO⟩, ⟨%d, %g, %hg, Hx⟩⟩
  have hx : g = xAt m ρ c := by rw [hg]; unfold Dat.before; rw [if_pos (fetch0_0 _)]; rfl
  subst hx
  ihave Hb := (buffers_open m ρ c) $$ [Hx Hw Ho Hsc]
  · unfold restPre
    isplitl [Hx]; · iexact Hx
    isplitl [Hw]; · iexact Hw
    isplitl [Ho] <;> iassumption
  ihave Hd : debt c (allOwed c) $$ [HO]
  · unfold debt; iexists W; iexact HO
  iapply (sound_body m ρ K c fun _ => bodyPost m ρ c) $$ HR Hlev Hd Hri Hcr Hb
  iintro H
  iapply (end_post m ρ c); iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hw, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hw]; · iexact Hw
    iexists _; iexact Ho
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl]
  unfold before
  iintro ⟨Hs, -, Hr⟩
  isplitl [Hs] <;> iassumption

/-- What is read at the end: the barrier's counter, the weights and the result. -/
def kept (c : Dev nD) : sProp 𝕄 :=
  iprop(unscopedSems0 c ∗ (((c : Thread nD τ).loc main_arg1) ↦{fullShare} wAt m c) ∗ (((c : Thread nD τ).loc main_v1) ↦{fullShare} outAt m ρ c))

theorem leave (c : Dev nD) :
    (dats m ρ 0 c).Φ (Fin.last cfg0.N) ⊢ iprop(kept m ρ c ∗ Pipeline.ownSems0 osem c ∗ Pipeline.scopedRest cfg0.spec c) := by
  rw [show (dats m ρ 0 c).Φ (Fin.last cfg0.N) = after m ρ c from rfl]
  unfold after restPost kept
  rw [sems0_eq]
  iintro ⟨⟨Hu, Hs⟩, Hw, Ho, Hr⟩
  isplitl [Hu Hw Ho]
  · isplitl [Hu]; · iexact Hu
    isplitl [Hw] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the final state of device `c` is read to hold. -/
def Reads (c : Dev nD) (s : MemSt nD τ sig (Elt F)) : Prop :=
  (∀ sm : SemLoc sig, sm.isScoped .tc = false → s.sem ((c.tc : Thread nD τ), sm) = 0)
    ∧ s.mem ((c.tc : Thread nD τ).loc main_arg1) = m ((c.tc : Thread nD τ).loc main_arg1)
    ∧ s.mem ((c.tc : Thread nD τ).loc main_v1) = outAt m ρ c

theorem kept_read (c : Dev nD) (s' : Phys nD τ sig (Elt F)) :
    iprop(kept m ρ c ∗ emp ∗ SI s') ⊢ (|={Set.univ}=> iprop(⌜Reads m ρ c s'.mem⌝ ∗ SI s') : sProp 𝕄) := by
  unfold kept
  iintro ⟨⟨Hu, Hw, Ho⟩, -, HSI⟩
  ihave %hw := (SI_pointsTo_agree (st := s')) $$ [HSI Hw]
  · isplitl [HSI] <;> iassumption
  ihave %ho := (SI_pointsTo_agree (st := s')) $$ [HSI Ho]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hw i (Finset.mem_univ i), funext fun i => ho i (Finset.mem_univ i)⟩
  iexact HSI

set_option maxRecDepth 8000 in
/-- On eight devices, from any memory with zero counters, every fair execution of the program ends with each device's
    arguments unchanged, `outAt` in its result array and every counter at zero. -/
theorem run_main : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = outAt m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := enter m ρ) (hout := leave m ρ)
    (QY := Reads m ρ)
    (hY := kept_read m ρ)
    (hQ := fun _ h hs => ⟨fun c => ⟨((h c).1 (0 : Fin 1)).trans ((dats (F := F) m ρ 0 c).arrAt_in (0 : Fin 1) rfl _), (h c).2.2.2⟩,
      sem_eq_zero hs fun c => (h c).2.2.1⟩)

end Cert.Exchange

end
-- ==== Proof.Blocks.lean ====
/-
# Blocks: what the rows a device multiplies are, in the arrays

Row `r` of the product of device `c` meets block `b` of `x`'s columns in the buffer that device `b` sent, and block `b`
of the rows of the weights.
-/
module

public import proofs.«01_k».proof.Proof.Protocol
public import Idealize.ShloMosaic.Lib.ValueLayout

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Where block `b`'s element `k` of an axis of 1024 is. -/
def at1024 (b : Dev nD) (k : Fin 128) : Fin 1024 :=
  ⟨128 * b.val + k.val, by have h : b.val < 8 := b.isLt; omega⟩

/-- The staged `x` is the device's array. -/
theorem xAt_eq (c : Dev nD) (i : S1024x128.Idx) : xAt m ρ c i = m ((c.tc : Thread nD τ).loc main_arg0) i := by
  unfold xAt s₀
  refine congrArg (m ((c.tc : Thread nD τ).loc main_arg0)) (funext fun a => Fin.ext ?_)
  show ((win0_0.rect (0 : Fin 1)).emb i a).val = (i a).val
  rw [Rect.emb_apply]
  fin_cases a
  · show 0 * 1024 + 1 * (i 0).val = (i 0).val
    omega
  · show 0 * 128 + 1 * (i 1).val = (i 1).val
    omega

theorem xOwn_apply (c : Dev nD) (r k : Fin 128) : xOwn m ρ c (ix2 r k) = m ((c.tc : Thread nD τ).loc main_arg0) (ix2 (at1024 c r) k) := by
  unfold xOwn
  refine (xAt_eq m ρ c _).trans (congrArg (m ((c.tc : Thread nD τ).loc main_arg0)) (funext fun a => Fin.ext ?_))
  show (k0_off2 c) a + 1 * ((ix2 r k : S128x128.Idx) a).val = _
  rw [k0_off2_eq]
  fin_cases a <;> simp [at1024]

theorem wOwn_apply (c : Dev nD) (k : Fin 128) (n : Fin 1024) : wOwn m c (ix2 k n) = m ((c.tc : Thread nD τ).loc main_arg1) (ix2 (at1024 c k) n) := by
  unfold wOwn wAt
  refine congrArg (m ((c.tc : Thread nD τ).loc main_arg1)) (funext fun a => Fin.ext ?_)
  show (k0_off3 c) a + 1 * ((ix2 k n : S128x1024.Idx) a).val = _
  rw [k0_off3_eq]
  fin_cases a <;> simp [at1024]

theorem xGot_apply (c : Dev nD) (j : Fin 7) (r k : Fin 128) :
    xGot m ρ c j (ix3 (0 : Fin 1) r k) = m (((behind c j).tc : Thread nD τ).loc main_arg0) (ix2 (at1024 c r) k) := by
  have h : xGot m ρ c j (ix3 (0 : Fin 1) r k) = landed m ρ c (ix3 j r k : S7x128x128.Idx) := by
    unfold xGot
    refine congrArg (landed m ρ c) (funext fun a => Fin.ext ?_)
    show ((slotR j).emb (ix3 (0 : Fin 1) r k) a).val = _
    rw [Rect.emb_apply]
    fin_cases a <;> simp
  rw [h]
  unfold landed
  show xAt m ρ (behind c j) ((blkM (behind c j) j).view.emb (ix2 r k : S128x128.Idx)) = _
  rw [blkM_emb, xAt_eq]
  simp only [ahead_behind]
  rfl

theorem wGot_apply (c : Dev nD) (j : Fin 7) (k : Fin 128) (n : Fin 1024) :
    wGot m c j (ix2 k n) = m ((c.tc : Thread nD τ).loc main_arg1) (ix2 (at1024 (behind c j) k) n) := by
  unfold wGot wAt
  refine congrArg (m ((c.tc : Thread nD τ).loc main_arg1)) (funext fun a => Fin.ext ?_)
  show (k0_off4 c (BitVec.ofNat 32 (1 + j.val))) a + 1 * ((ix2 k n : S128x1024.Idx) a).val = _
  rw [k0_off4_eq]
  fin_cases a <;> simp [at1024, behind]

end Cert.Exchange

end
-- ==== Proof.Gelu.lean ====
/-
# Gelu: the kernel's form of the activation is the reference's

The kernel computes `a / (1 + exp (0 - 2 q (a + ((p a) a) a)))`, the reference
`(1/2 a) (1 + tanh (q (a + p ((a a) a))))`. On the extended reals the two agree everywhere, the infinities included.
-/
module

public import Idealize.ShloMosaic.PureOps.Ideal.Laws
public import Idealize.ShloMosaic.Lib.IdealHost
public import Mathlib.Analysis.SpecialFunctions.Trigonometric.Basic
public import Mathlib.Tactic.FieldSimp
public import Mathlib.Tactic.Ring
public import Mathlib.Tactic.NormNum

@[expose] public section

namespace Cert.Exchange

open Idealize.ShloMosaic

/-- The constant 0.797884583 of the reference and the kernel's, which is twice it; and the cubic term's 0.044715. -/
noncomputable def qR : ℝ := 13386282 / 16777216
noncomputable def pR : ℝ := 12003091 / 268435456

theorem qR_pos : 0 < qR := by unfold qR; norm_num
theorem pR_pos : 0 < pR := by unfold pR; norm_num

theorem ofBits_half : Ideal.ofBits .f32 0x3F000000#32 = ((1 / 2 : ℝ) : EReal) := by
  simp [Ideal.ofBits, Ideal.ieee, -EReal.coe_mul]; norm_num
theorem ofBits_q : Ideal.ofBits .f32 0x3F4C422A#32 = (qR : EReal) := by
  unfold qR; simp [Ideal.ofBits, Ideal.ieee, -EReal.coe_mul]; norm_num
theorem ofBits_two_q : Ideal.ofBits .f32 0x3FCC422A#32 = ((2 * qR : ℝ) : EReal) := by
  unfold qR; simp [Ideal.ofBits, Ideal.ieee, -EReal.coe_mul]; norm_num
theorem ofBits_p : Ideal.ofBits .f32 0x3D372713#32 = (pR : EReal) := by
  unfold pR; simp [Ideal.ofBits, Ideal.ieee, -EReal.coe_mul]; norm_num

/-- On the reals: `r / (1 + exp (-2 z)) = r/2 (1 + tanh z)`. -/
theorem half_tanh (r z : ℝ) : r * (1 + Real.exp (0 - 2 * z))⁻¹ = 1 / 2 * r * (1 + Real.tanh z) := by
  have h1 : Real.exp (0 - 2 * z) = (Real.exp z)⁻¹ * (Real.exp z)⁻¹ := by
    rw [← Real.exp_neg, ← Real.exp_add]; congr 1; ring
  have h2 : 0 < Real.exp z := Real.exp_pos z
  rw [h1, Real.tanh_eq_sinh_div_cosh, Real.sinh_eq, Real.cosh_eq, Real.exp_neg]
  field_simp
  ring

/-- The two forms of the activation agree at every extended real. -/
theorem gelu_eq (a : EReal) :
    Ideal.div a (1 + Ideal.exp (0 - ((2 * qR : ℝ) : EReal) * (a + (pR : EReal) * a * a * a)))
      = ((1 / 2 : ℝ) : EReal) * a * (1 + Ideal.tanh ((qR : EReal) * (a + (pR : EReal) * (a * a * a)))) := by
  induction a using EReal.rec with
  | bot =>
    rw [EReal.coe_mul_bot_of_pos pR_pos, EReal.bot_mul_bot, EReal.top_mul_bot, EReal.bot_add, EReal.coe_mul_bot_of_pos (by have := qR_pos; linarith),
      EReal.coe_mul_bot_of_pos (by norm_num), EReal.coe_mul_bot_of_pos pR_pos, EReal.bot_add, EReal.coe_mul_bot_of_pos qR_pos]
    have h : (1 : EReal) + Ideal.exp (0 - ⊥) = ⊤ := by
      rw [sub_eq_add_neg, EReal.neg_bot, zero_add]; rfl
    rw [h, Ideal.tanh_bot]
    have h' : (1 : EReal) + -1 = 0 := by
      rw [← EReal.coe_one, ← EReal.coe_neg, ← EReal.coe_add]; norm_num
    rw [h', mul_zero]
    unfold Ideal.div
    rw [if_neg EReal.top_ne_zero, EReal.inv_top, mul_zero]
  | top =>
    rw [EReal.coe_mul_top_of_pos pR_pos, EReal.top_mul_top, EReal.top_mul_top, EReal.top_add_top, EReal.coe_mul_top_of_pos (by have := qR_pos; linarith),
      EReal.coe_mul_top_of_pos (by norm_num), EReal.coe_mul_top_of_pos pR_pos, EReal.top_add_top, EReal.coe_mul_top_of_pos qR_pos]
    have h : (1 : EReal) + Ideal.exp (0 - ⊤) = 1 := by
      rw [sub_eq_add_neg, EReal.neg_top, zero_add]; exact add_zero _
    rw [h, Ideal.tanh_top]
    have h' : (1 : EReal) + 1 = ((2 : ℝ) : EReal) := by
      rw [← EReal.coe_one, ← EReal.coe_add]; norm_num
    rw [h', EReal.top_mul_coe_of_pos (by norm_num)]
    unfold Ideal.div
    rw [if_neg one_ne_zero, ← EReal.coe_one, ← EReal.coe_inv, inv_one, EReal.top_mul_coe_of_pos one_pos]
  | coe r =>
    have hz : ((2 * qR : ℝ) : EReal) * ((r : EReal) + (pR : EReal) * r * r * r) = ((2 * (qR * (r + pR * (r * r * r))) : ℝ) : EReal) := by
      rw [← EReal.coe_mul, ← EReal.coe_mul, ← EReal.coe_mul, ← EReal.coe_add, ← EReal.coe_mul]
      congr 1; ring
    rw [hz, ← EReal.coe_zero, ← EReal.coe_sub, Ideal.exp_coe, ← EReal.coe_one, ← EReal.coe_add]
    unfold Ideal.div
    rw [if_neg (by
        rw [EReal.coe_eq_zero]
        exact (add_pos one_pos (Real.exp_pos _)).ne'), ← EReal.coe_inv, ← EReal.coe_mul, half_tanh,
      ← EReal.coe_mul, ← EReal.coe_mul, ← EReal.coe_mul, ← EReal.coe_mul, ← EReal.coe_add, ← EReal.coe_mul, Ideal.tanh_coe, ← EReal.coe_add, ← EReal.coe_mul]

end Cert.Exchange

end
-- ==== Proof.Value.lean ====
/-
# Value: the kernel's result is the reference's

Over the extended reals, row `r` of device `c`'s sum of products is row `128 c + r` of the whole product: eight partial
sums of 128 terms, one per block of the contracted axis, in the order the kernel takes them, are the sum of 1024 terms.
The activation follows element by element. No finiteness of the arguments is used: addition of extended reals is
associative and commutative, and the two forms of the activation agree at the infinities too.
-/
module

public import proofs.«01_k».proof.Proof.Blocks
public import proofs.«01_k».proof.Proof.Gelu
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-! ## One product -/

/-- A product of a 128 × 128 by a 128 × 1024 matrix, from a zero accumulator, at an element. -/
theorem prod_apply (x : FVec Ideal S128x128 .bf16) (w : FVec Ideal S128x1024 .bf16) (r : Fin 128) (n : Fin 1024) :
    matmul dot_S128x128_S128x1024_S128x1024_1_0_0_1_n_n none x w (constant (F := Ideal) S128x1024 .f32 0x00000000#32) (ix2 r n)
      = ∑ k : Fin 128, x (ix2 r k) * w (ix2 k n) := by
  refine (Ideal.matmul_plain_apply (M := 128) (K := 128) (N := 1024) none x w _ r n).trans ?_
  rw [ValueIdx.constant_apply, Ideal.ofBits_zero_f32, zero_add]

/-- The same of a matrix that carries a leading axis of size one. -/
theorem prod_cast_apply (x : FVec Ideal S1x128x128 .bf16) (w : FVec Ideal S128x1024 .bf16) (r : Fin 128) (n : Fin 1024) :
    matmul dot_S128x128_S128x1024_S128x1024_1_0_0_1_n_n none (shapeCast S128x128 x shapeCasts_S1x128x128_S128x128) w
        (constant (F := Ideal) S128x1024 .f32 0x00000000#32) (ix2 r n)
      = ∑ k : Fin 128, x (ix3 (0 : Fin 1) r k) * w (ix2 k n) :=
  (prod_apply _ w r n).trans (Finset.sum_congr rfl fun k _ => by rw [shapeCast_1ab_ab_apply])

section Kernel

variable (m : (ℓ : Loc nD τ sig) → Buf (Elt Ideal) ℓ) (ρ : Dev nD → PrngReg)

/-- The two arrays of a device, as extended reals. -/
def xArr (c : Dev nD) : S1024x128.Idx → EReal := m ((c.tc : Thread nD τ).loc main_arg0)
def wArr (c : Dev nD) : S1024x1024.Idx → EReal := m ((c.tc : Thread nD τ).loc main_arg1)

/-- The part of the sum for element `(r, n)` of device `c` that block `b` of the contracted axis gives. -/
def share (c : Dev nD) (r : Fin 128) (n : Fin 1024) (b : Dev nD) : EReal :=
  ∑ k : Fin 128, xArr m b (ix2 (at1024 c r) k) * wArr m c (ix2 (at1024 b k) n)

/-- The product of the rows a device keeps is its own block's part. -/
theorem own_share (c : Dev nD) (r : Fin 128) (n : Fin 1024) :
    matmul (φ₁ := .bf16) (φ₂ := .bf16) dot_S128x128_S128x1024_S128x1024_1_0_0_1_n_n none (xOwn m ρ c) (wOwn m c)
      (constant (F := Ideal) S128x1024 .f32 0x00000000#32) (ix2 r n) = share m c r n c :=
  (prod_apply _ _ r n).trans (Finset.sum_congr rfl fun k _ => by rw [xOwn_apply, wOwn_apply]; rfl)

/-- The product of the rows received in slot `j` is the part of the block of the device they came from. -/
theorem got_share (c : Dev nD) (j : Fin 7) (r : Fin 128) (n : Fin 1024) :
    matmul (φ₁ := .bf16) (φ₂ := .bf16) dot_S128x128_S128x1024_S128x1024_1_0_0_1_n_n none (shapeCast S128x128 (xGot m ρ c j) shapeCasts_S1x128x128_S128x128) (wGot m c j)
      (constant (F := Ideal) S128x1024 .f32 0x00000000#32) (ix2 r n) = share m c r n (behind c j) :=
  (prod_cast_apply _ _ r n).trans (Finset.sum_congr rfl fun k _ => by rw [xGot_apply, wGot_apply]; rfl)

/-- The sum of products at an element, in the kernel's order. -/
theorem acc_apply (c : Dev nD) (r : Fin 128) (n : Fin 1024) :
    acc m ρ c (ix2 r n)
      = share m c r n c + share m c r n (behind c 3) + share m c r n (behind c 0) + share m c r n (behind c 6) + share m c r n (behind c 2)
        + share m c r n (behind c 4) + share m c r n (behind c 1) + share m c r n (behind c 5) := by
  unfold acc accBut k0_pay1 k0_pay2 k0_pay3 k0_pay4 k0_pay5 k0_pay6
  simp only [ValueIdx.addf_apply, shapeCast_self, own_share, got_share]

/-- The devices are `c` and the seven behind it, each once. -/
theorem insert_behind (c : Dev nD) : insert c (Finset.univ.image (behind c)) = Finset.univ := by revert c; decide
theorem notMem_behind (c : Dev nD) : c ∉ Finset.univ.image (behind c) := by revert c; decide
theorem behind_injective (c : Dev nD) : Function.Injective (behind c) := by revert c; decide

/-- The sum of products at an element is the sum of the parts of all blocks. -/
theorem acc_sum (c : Dev nD) (r : Fin 128) (n : Fin 1024) : acc m ρ c (ix2 r n) = ∑ b : Dev nD, share m c r n b := by
  rw [acc_apply, ← insert_behind c, Finset.sum_insert (notMem_behind c), Finset.sum_image fun a _ b _ h => behind_injective c h,
    Fin.sum_univ_seven]
  ac_rfl

end Kernel

/-! ## Eight blocks of 128 are one axis of 1024 -/

/-- A sum over the contracted axis, block by block. -/
theorem sum_blocks (f : Fin 1024 → EReal) : ∑ b : Dev nD, ∑ k : Fin 128, f (at1024 b k) = ∑ i : Fin 1024, f i := by
  rw [← Fintype.sum_prod_type']
  refine Fintype.sum_equiv (finProdFinEquiv (m := 8) (n := 128)) _ _ fun p => congrArg f (Fin.ext ?_)
  simp only [at1024, finProdFinEquiv_apply_val]
  omega

section Whole

variable (m : (ℓ : Loc nD τ sig) → Buf (Elt Ideal) ℓ) (ρ : Dev nD → PrngReg)
variable (X W : S1024x1024.Idx → EReal)

/-- Where device `c`'s columns of the whole `x` put an element of the block they make. -/
theorem share_whole (hX : ∀ c : Dev nD, m ((c.tc : Thread nD τ).loc main_arg0) = Layout.block ⟨2, ![1024, 128]⟩ ⟨2, ![1024, 1024]⟩ 1 8 c X)
    (hW : ∀ c : Dev nD, m ((c.tc : Thread nD τ).loc main_arg1) = W) (c : Dev nD) (r : Fin 128) (n : Fin 1024) (b : Dev nD) :
    share m c r n b = ∑ k : Fin 128, X (ix2 (at1024 c r) (at1024 b k)) * W (ix2 (at1024 b k) n) := by
  unfold share
  refine Finset.sum_congr rfl fun k _ => ?_
  unfold xArr wArr
  rw [hX, hW]
  refine congrArg (· * W (ix2 (at1024 b k) n)) (congrArg X (funext fun a => Fin.ext ?_))
  fin_cases a
  · rfl
  · show b.val * 128 + k.val = 128 * b.val + k.val
    omega

/-- Device `c`'s sum at `(r, n)` is the whole product at `(128 c + r, n)`. -/
theorem acc_whole (hX : ∀ c : Dev nD, m ((c.tc : Thread nD τ).loc main_arg0) = Layout.block ⟨2, ![1024, 128]⟩ ⟨2, ![1024, 1024]⟩ 1 8 c X)
    (hW : ∀ c : Dev nD, m ((c.tc : Thread nD τ).loc main_arg1) = W) (c : Dev nD) (r : Fin 128) (n : Fin 1024) :
    acc m ρ c (ix2 r n) = ∑ i : Fin 1024, X (ix2 (at1024 c r) i) * W (ix2 i n) := by
  rw [acc_sum, ← sum_blocks]
  exact Finset.sum_congr rfl fun b _ => share_whole m X W hX hW c r n b

/-- The activation of the whole product at `(r, n)`, in the reference's form. -/
def gelu (a : EReal) : EReal :=
  ((1 / 2 : ℝ) : EReal) * a * (1 + Ideal.tanh ((qR : EReal) * (a + (pR : EReal) * (a * a * a))))

/-- The kernel's activation is the reference's. -/
theorem act_eq (a : EReal) : act (F := Ideal) a = gelu a := by
  refine Eq.trans ?_ (gelu_eq a)
  show Ideal.div a (Ideal.ofBits .f32 0x3F800000#32 + Ideal.exp (Ideal.ofBits .f32 0x00000000#32
    - Ideal.ofBits .f32 0x3FCC422A#32 * (a + Ideal.ofBits .f32 0x3D372713#32 * a * a * a))) = _
  rw [Ideal.ofBits_one_f32, Ideal.ofBits_zero_f32, ofBits_two_q, ofBits_p]

end Whole

end Cert.Exchange

/-! ## The reference's value -/

namespace Cert.Exchange.Ref

open Idealize.ShloMosaic Idealize.ShloMosaic.ValueIdx Cert.ReferenceIdeal Cert.ReferenceIdeal.Gen
open scoped BigOperators

/-- The activation the reference applies to its product, as its operations compose. -/
def geluOf (Y : FVec Ideal S1024x1024 .f32) : FVec Ideal S1024x1024 .f32 :=
  mulf (mulf (broadcastInDim S1024x1024 ![] bcast_S_S1024x1024 (constant S_ .f32 0x3F000000#32)) Y)
    (addf (broadcastInDim S1024x1024 ![] bcast_S_S1024x1024 (constant S_ .f32 0x3F800000#32))
      (Host.tanh (mulf (broadcastInDim S1024x1024 ![] bcast_S_S1024x1024 (constant S_ .f32 0x3F4C422A#32))
        (addf Y (mulf (broadcastInDim S1024x1024 ![] bcast_S_S1024x1024 (constant S_ .f32 0x3D372713#32)) (mulf (mulf Y Y) Y))))))

/-- The reference's result, of its two arrays. -/
def result (X W : FVec Ideal S1024x1024 .bf16) : FVec Ideal S1024x1024 .f32 :=
  geluOf (extf .f32 (truncf .bf16 (Host.dotGeneral dot_S1024x1024_S1024x1024_S1024x1024_1_0_0_1_n_n none X W) bitsLt_bf16_f32) bitsLt_bf16_f32)

/-- The reference's activation, at an element. -/
theorem geluOf_apply (Y : FVec Ideal S1024x1024 .f32) (i : S1024x1024.Idx) : geluOf Y i = gelu (Y i) := by
  unfold geluOf gelu
  rw [← ofBits_half, ← ofBits_q, ← ofBits_p, ← Ideal.ofBits_one_f32]
  rfl

/-- The reference's result, at an element. -/
theorem result_apply (X W : FVec Ideal S1024x1024 .bf16) (r n : Fin 1024) :
    result X W (ix2 r n) = gelu (∑ i : Fin 1024, (X (ix2 r i) : EReal) * W (ix2 i n)) := by
  unfold result
  rw [geluOf_apply]
  refine congrArg gelu ?_
  exact StackMember.dotGeneral_plain_apply (m := 1024) (k := 1024) (n := 1024) none X W r n

end Cert.Exchange.Ref

namespace Cert.Exchange

open Idealize.ShloMosaic Idealize.ShloMosaic.ValueIdx Cert.KernelIdeal Cert.KernelIdeal.Gen

/-- Device `c`'s result is block `c`, along the rows, of the reference's. -/
theorem outAt_block (m : (ℓ : Loc nD τ sig) → Buf (Elt Ideal) ℓ) (ρ : Dev nD → PrngReg) (X W : S1024x1024.Idx → EReal)
    (hX : ∀ c : Dev nD, m ((c.tc : Thread nD τ).loc main_arg0) = Layout.block ⟨2, ![1024, 128]⟩ ⟨2, ![1024, 1024]⟩ 1 8 c X)
    (hW : ∀ c : Dev nD, m ((c.tc : Thread nD τ).loc main_arg1) = W) (c : Dev nD) :
    outAt m ρ c = Layout.block ⟨2, ![128, 1024]⟩ ⟨2, ![1024, 1024]⟩ 0 8 c (Ref.result X W) := by
  funext i
  obtain ⟨r, n, rfl⟩ : ∃ (r : Fin 128) (n : Fin 1024), i = ix2 r n := ⟨i 0, i 1, eq_ix2 i⟩
  refine ((act_eq _).trans (congrArg gelu (acc_whole m ρ X W hX hW c r n))).trans ?_
  refine (Ref.result_apply X W (at1024 c r) n).symm.trans (congrArg (Ref.result X W) (funext fun a => Fin.ext ?_))
  fin_cases a
  · show 128 * c.val + r.val = c.val * 128 + r.val
    omega
  · rfl

end Cert.Exchange

end
-- ==== Proof.SameText.lean ====
/-
# SameText: the kernel at its own formats and the kernel over the extended reals are one program

Nothing is rewritten between the two, so what is proved of one, at any float semantics, holds of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.SameText

open Idealize.ShloMosaic

variable {F : FTy → Type} [FloatOps F]

/-- The two have the same kernel functions. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => ?_)
  match l with
  | 0 => exact funext fun ⟨t, s⟩ => rfl

/-- The two have the same functions, the staging of the arguments included. -/
theorem defs_eq : @Cert.Kernel.defs F _ Cert.Kernel.Gen.facts = @Cert.KernelIdeal.defs F _ Cert.KernelIdeal.Gen.facts :=
  congrArg (Pipeline.defs Cert.KernelIdeal.pcfgs) defs₀_eq

end Cert.SameText

end
-- ==== Proof.lean ====
/-
# The claims, proved

One run of the kernel (`Cert.Exchange.run_main`, at any float semantics) gives its two frames and, over the extended
reals, the value claim: each device's result is its block of rows of the reference's (`Cert.Exchange.outAt_block`).
The reference runs straight through and has no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.SameText
public import Idealize.ShloMosaic.Lib.Quiescent

@[expose] public section

noncomputable section

namespace Cert.Proof

open Idealize.ShloMosaic Idealize.SL.Sem

/-- The run's frame, at any float semantics. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Exchange.run_main m g)

/-- The kernel at its own formats, whose text is the same: it runs, leaves its arguments alone, and leaves every
semaphore at zero. -/
theorem frame_kernel : Cert.quiescent_Kernel (hKernel := Cert.Kernel.Gen.facts) := fun m g _ => by
  rw [Cert.SameText.defs_eq]
  exact run_frame (F := Bits) m g

/-- The same of the kernel over the extended reals. -/
theorem frame_ideal : Cert.quiescent_KernelIdeal (hKernelIdeal := Cert.KernelIdeal.Gen.facts) := fun m g _ => run_frame (F := Ideal) m g

/-- The same of the reference, which has no semaphore. -/
theorem frame_reference : Cert.quiescent_ReferenceIdeal (hReferenceIdeal := Cert.ReferenceIdeal.Gen.facts) := fun m g _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m g)

/-- Each device's result is its block of rows of the reference's result, whatever the arguments hold. -/
theorem value : Cert.algebraic_KernelIdeal_ReferenceIdeal (hKernelIdeal := Cert.KernelIdeal.Gen.facts)
    (hReferenceIdeal := Cert.ReferenceIdeal.Gen.facts) := fun m g m' g' _ hm =>
  ⟨Cert.Exchange.Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.Exchange.outAt_block m g _ _ (fun c => (hm c).1) (fun c => (hm c).2) c), (h.1 c).1, (h.1 c).2.1⟩)
      (Cert.Exchange.run_main (F := Ideal) m g),
    (θ_run Cert.ReferenceIdeal.defs _ _).mono (fun _ h => h 0) (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
